-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scales_normal [hPre_scales_normal : Cert.Pre_scales_normal.Facts] (m : (ℓ : Loc Cert.KernelIdeal.nD Cert.KernelIdeal.τ Cert.KernelIdeal.sig) → Buf (Elt Ideal) ℓ) : Prop :=
  ∀ c : Dev Cert.KernelIdeal.nD,
    (Cert.Pre_scales_normal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scales_normal [hPre_scales_normal : Cert.Pre_scales_normal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scales_normal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Quant (m : (ℓ : Loc Cert.Quant.nD Cert.Quant.τ Cert.Quant.sig) → Buf (Elt Bits) ℓ) : Prop :=
  True

def Pre_QuantIdeal (m : (ℓ : Loc Cert.QuantIdeal.nD Cert.QuantIdeal.τ Cert.QuantIdeal.sig) → Buf (Elt Ideal) ℓ) : Prop :=
  True

def Pre_QuantIdeal_blocks_normal [hPre_blocks_normal : Cert.Pre_blocks_normal.Facts] (m : (ℓ : Loc Cert.QuantIdeal.nD Cert.QuantIdeal.τ Cert.QuantIdeal.sig) → Buf (Elt Ideal) ℓ) : Prop :=
  ∀ c : Dev Cert.QuantIdeal.nD,
    (Cert.Pre_blocks_normal.fn (F := Ideal) (m ((c.tc : Thread Cert.QuantIdeal.nD Cert.QuantIdeal.τ).loc Cert.QuantIdeal.main_arg0))) = (fun _ => 1#1)

def Pre_QuantReferenceIdeal (m : (ℓ : Loc Cert.QuantReferenceIdeal.nD Cert.QuantReferenceIdeal.τ Cert.QuantReferenceIdeal.sig) → Buf (Elt Ideal) ℓ) : Prop :=
  True

def Pre_QuantReferenceIdeal_blocks_normal [hPre_blocks_normal : Cert.Pre_blocks_normal.Facts] (m : (ℓ : Loc Cert.QuantReferenceIdeal.nD Cert.QuantReferenceIdeal.τ Cert.QuantReferenceIdeal.sig) → Buf (Elt Ideal) ℓ) : Prop :=
  ∀ c : Dev Cert.QuantReferenceIdeal.nD,
    (Cert.Pre_blocks_normal.fn (F := Ideal) (m ((c.tc : Thread Cert.QuantReferenceIdeal.nD Cert.QuantReferenceIdeal.τ).loc Cert.QuantReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_scales_normal [hKernelIdeal : Cert.KernelIdeal.Facts] [hPre_scales_normal : Cert.Pre_scales_normal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scales_normal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_scales_normal [hReferenceIdeal : Cert.ReferenceIdeal.Facts] [hPre_scales_normal : Cert.Pre_scales_normal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scales_normal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Quant [hQuant : Cert.Quant.Facts] : Prop :=
  ∀ (m : (ℓ : Loc Cert.Quant.nD Cert.Quant.τ Cert.Quant.sig) → Buf (Elt Bits) ℓ) (g : Dev Cert.Quant.nD → PrngReg), Pre_Quant m →
    θ_run (Cert.Quant.defs (F := Bits)) (onTc (τ := Cert.Quant.τ) (Cert.Quant.main (F := Bits))) ⟨m, fun _ => 0, g⟩ (fun r => (∀ c : Dev Cert.Quant.nD,
      r.2.mem ((c.tc : Thread Cert.Quant.nD Cert.Quant.τ).loc Cert.Quant.main_arg0) = m ((c.tc : Thread Cert.Quant.nD Cert.Quant.τ).loc Cert.Quant.main_arg0))
      ∧ r.2.sem = fun _ => 0)

def quiescent_QuantIdeal [hQuantIdeal : Cert.QuantIdeal.Facts] : Prop :=
  ∀ (m : (ℓ : Loc Cert.QuantIdeal.nD Cert.QuantIdeal.τ Cert.QuantIdeal.sig) → Buf (Elt Ideal) ℓ) (g : Dev Cert.QuantIdeal.nD → PrngReg), Pre_QuantIdeal m →
    θ_run (Cert.QuantIdeal.defs (F := Ideal)) (onTc (τ := Cert.QuantIdeal.τ) (Cert.QuantIdeal.main (F := Ideal))) ⟨m, fun _ => 0, g⟩ (fun r => (∀ c : Dev Cert.QuantIdeal.nD,
      r.2.mem ((c.tc : Thread Cert.QuantIdeal.nD Cert.QuantIdeal.τ).loc Cert.QuantIdeal.main_arg0) = m ((c.tc : Thread Cert.QuantIdeal.nD Cert.QuantIdeal.τ).loc Cert.QuantIdeal.main_arg0))
      ∧ r.2.sem = fun _ => 0)

def quiescent_QuantIdeal_pre_blocks_normal [hQuantIdeal : Cert.QuantIdeal.Facts] [hPre_blocks_normal : Cert.Pre_blocks_normal.Facts] : Prop :=
  ∀ (m : (ℓ : Loc Cert.QuantIdeal.nD Cert.QuantIdeal.τ Cert.QuantIdeal.sig) → Buf (Elt Ideal) ℓ) (g : Dev Cert.QuantIdeal.nD → PrngReg), Pre_QuantIdeal_blocks_normal m →
    θ_run (Cert.QuantIdeal.defs (F := Ideal)) (onTc (τ := Cert.QuantIdeal.τ) (Cert.QuantIdeal.main (F := Ideal))) ⟨m, fun _ => 0, g⟩ (fun r => (∀ c : Dev Cert.QuantIdeal.nD,
      r.2.mem ((c.tc : Thread Cert.QuantIdeal.nD Cert.QuantIdeal.τ).loc Cert.QuantIdeal.main_arg0) = m ((c.tc : Thread Cert.QuantIdeal.nD Cert.QuantIdeal.τ).loc Cert.QuantIdeal.main_arg0))
      ∧ r.2.sem = fun _ => 0)

def quiescent_QuantReferenceIdeal [hQuantReferenceIdeal : Cert.QuantReferenceIdeal.Facts] : Prop :=
  ∀ (m : (ℓ : Loc Cert.QuantReferenceIdeal.nD Cert.QuantReferenceIdeal.τ Cert.QuantReferenceIdeal.sig) → Buf (Elt Ideal) ℓ) (g : Dev Cert.QuantReferenceIdeal.nD → PrngReg), Pre_QuantReferenceIdeal m →
    θ_run (Cert.QuantReferenceIdeal.defs (F := Ideal)) (onTc (τ := Cert.QuantReferenceIdeal.τ) (Cert.QuantReferenceIdeal.main (F := Ideal))) ⟨m, fun _ => 0, g⟩ (fun r => (∀ c : Dev Cert.QuantReferenceIdeal.nD,
      r.2.mem ((c.tc : Thread Cert.QuantReferenceIdeal.nD Cert.QuantReferenceIdeal.τ).loc Cert.QuantReferenceIdeal.main_arg0) = m ((c.tc : Thread Cert.QuantReferenceIdeal.nD Cert.QuantReferenceIdeal.τ).loc Cert.QuantReferenceIdeal.main_arg0))
      ∧ r.2.sem = fun _ => 0)

def quiescent_QuantReferenceIdeal_pre_blocks_normal [hQuantReferenceIdeal : Cert.QuantReferenceIdeal.Facts] [hPre_blocks_normal : Cert.Pre_blocks_normal.Facts] : Prop :=
  ∀ (m : (ℓ : Loc Cert.QuantReferenceIdeal.nD Cert.QuantReferenceIdeal.τ Cert.QuantReferenceIdeal.sig) → Buf (Elt Ideal) ℓ) (g : Dev Cert.QuantReferenceIdeal.nD → PrngReg), Pre_QuantReferenceIdeal_blocks_normal m →
    θ_run (Cert.QuantReferenceIdeal.defs (F := Ideal)) (onTc (τ := Cert.QuantReferenceIdeal.τ) (Cert.QuantReferenceIdeal.main (F := Ideal))) ⟨m, fun _ => 0, g⟩ (fun r => (∀ c : Dev Cert.QuantReferenceIdeal.nD,
      r.2.mem ((c.tc : Thread Cert.QuantReferenceIdeal.nD Cert.QuantReferenceIdeal.τ).loc Cert.QuantReferenceIdeal.main_arg0) = m ((c.tc : Thread Cert.QuantReferenceIdeal.nD Cert.QuantReferenceIdeal.τ).loc Cert.QuantReferenceIdeal.main_arg0))
      ∧ r.2.sem = fun _ => 0)

def preserves_Kernel_KernelIdeal : Prop :=
  True

def algebraic_KernelIdeal_ReferenceIdeal_pre_scales_normal [hKernelIdeal : Cert.KernelIdeal.Facts] [hReferenceIdeal : Cert.ReferenceIdeal.Facts] [hPre_scales_normal : Cert.Pre_scales_normal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scales_normal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Quant_QuantIdeal : Prop :=
  True

def algebraic_QuantIdeal_QuantReferenceIdeal_pre_blocks_normal [hQuantIdeal : Cert.QuantIdeal.Facts] [hQuantReferenceIdeal : Cert.QuantReferenceIdeal.Facts] [hPre_blocks_normal : Cert.Pre_blocks_normal.Facts] : Prop :=
  ∀ (m : (ℓ : Loc Cert.QuantIdeal.nD Cert.QuantIdeal.τ Cert.QuantIdeal.sig) → Buf (Elt Ideal) ℓ) (g : Dev Cert.QuantIdeal.nD → PrngReg)
    (m' : (ℓ : Loc Cert.QuantReferenceIdeal.nD Cert.QuantReferenceIdeal.τ Cert.QuantReferenceIdeal.sig) → Buf (Elt Ideal) ℓ) (g' : Dev Cert.QuantReferenceIdeal.nD → PrngReg), Pre_QuantIdeal_blocks_normal m →
    (∀ c : Dev Cert.QuantIdeal.nD,
      m' ((c.tc : Thread Cert.QuantReferenceIdeal.nD Cert.QuantReferenceIdeal.τ).loc Cert.QuantReferenceIdeal.main_arg0) = m ((c.tc : Thread Cert.QuantIdeal.nD Cert.QuantIdeal.τ).loc Cert.QuantIdeal.main_arg0)) →
    ∃ (v0 : (c : Dev Cert.QuantIdeal.nD) → Buf (Elt Ideal) ((c.tc : Thread Cert.QuantIdeal.nD Cert.QuantIdeal.τ).loc Cert.QuantIdeal.main_v1_0)) (v1 : (c : Dev Cert.QuantIdeal.nD) → Buf (Elt Ideal) ((c.tc : Thread Cert.QuantIdeal.nD Cert.QuantIdeal.τ).loc Cert.QuantIdeal.main_v1_1)) (v2 : (c : Dev Cert.QuantIdeal.nD) → Buf (Elt Ideal) ((c.tc : Thread Cert.QuantIdeal.nD Cert.QuantIdeal.τ).loc Cert.QuantIdeal.main_v1_2)) (v3 : (c : Dev Cert.QuantIdeal.nD) → Buf (Elt Ideal) ((c.tc : Thread Cert.QuantIdeal.nD Cert.QuantIdeal.τ).loc Cert.QuantIdeal.main_v1_3)),
      θ_run (Cert.QuantIdeal.defs (F := Ideal)) (onTc (τ := Cert.QuantIdeal.τ) (Cert.QuantIdeal.main (F := Ideal))) ⟨m, fun _ => 0, g⟩ (fun r => ∀ c : Dev Cert.QuantIdeal.nD,
          r.2.mem ((c.tc : Thread Cert.QuantIdeal.nD Cert.QuantIdeal.τ).loc Cert.QuantIdeal.main_v1_0) = v0 c
          ∧ r.2.mem ((c.tc : Thread Cert.QuantIdeal.nD Cert.QuantIdeal.τ).loc Cert.QuantIdeal.main_v1_1) = v1 c
          ∧ r.2.mem ((c.tc : Thread Cert.QuantIdeal.nD Cert.QuantIdeal.τ).loc Cert.QuantIdeal.main_v1_2) = v2 c
          ∧ r.2.mem ((c.tc : Thread Cert.QuantIdeal.nD Cert.QuantIdeal.τ).loc Cert.QuantIdeal.main_v1_3) = v3 c
          ∧ r.2.mem ((c.tc : Thread Cert.QuantIdeal.nD Cert.QuantIdeal.τ).loc Cert.QuantIdeal.main_arg0) = m ((c.tc : Thread Cert.QuantIdeal.nD Cert.QuantIdeal.τ).loc Cert.QuantIdeal.main_arg0))
      ∧ θ_run (Cert.QuantReferenceIdeal.defs (F := Ideal)) (onTc (τ := Cert.QuantReferenceIdeal.τ) (Cert.QuantReferenceIdeal.main (F := Ideal))) ⟨m', fun _ => 0, g'⟩ (fun r => ∀ c : Dev Cert.QuantReferenceIdeal.nD,
          r.2.mem ((c.tc : Thread Cert.QuantReferenceIdeal.nD Cert.QuantReferenceIdeal.τ).loc Cert.QuantReferenceIdeal.main_v1_0) = v0 c
          ∧ r.2.mem ((c.tc : Thread Cert.QuantReferenceIdeal.nD Cert.QuantReferenceIdeal.τ).loc Cert.QuantReferenceIdeal.main_v1_1) = v1 c
          ∧ r.2.mem ((c.tc : Thread Cert.QuantReferenceIdeal.nD Cert.QuantReferenceIdeal.τ).loc Cert.QuantReferenceIdeal.main_v1_2) = v2 c
          ∧ r.2.mem ((c.tc : Thread Cert.QuantReferenceIdeal.nD Cert.QuantReferenceIdeal.τ).loc Cert.QuantReferenceIdeal.main_v1_3) = v3 c
          ∧ r.2.mem ((c.tc : Thread Cert.QuantReferenceIdeal.nD Cert.QuantReferenceIdeal.τ).loc Cert.QuantReferenceIdeal.main_arg0) = m' ((c.tc : Thread Cert.QuantReferenceIdeal.nD Cert.QuantReferenceIdeal.τ).loc Cert.QuantReferenceIdeal.main_arg0))

def Claim : Prop :=
  ∃ (hKernel : Cert.Kernel.Facts) (hKernelIdeal : Cert.KernelIdeal.Facts) (hReferenceIdeal : Cert.ReferenceIdeal.Facts) (hQuant : Cert.Quant.Facts) (hQuantIdeal : Cert.QuantIdeal.Facts) (hQuantReferenceIdeal : Cert.QuantReferenceIdeal.Facts) (hPre_scales_normal : Cert.Pre_scales_normal.Facts) (hPre_blocks_normal : Cert.Pre_blocks_normal.Facts),
    quiescent_Kernel (hKernel := hKernel)
    ∧ quiescent_KernelIdeal (hKernelIdeal := hKernelIdeal)
    ∧ quiescent_KernelIdeal_pre_scales_normal (hKernelIdeal := hKernelIdeal) (hPre_scales_normal := hPre_scales_normal)
    ∧ quiescent_ReferenceIdeal (hReferenceIdeal := hReferenceIdeal)
    ∧ quiescent_ReferenceIdeal_pre_scales_normal (hReferenceIdeal := hReferenceIdeal) (hPre_scales_normal := hPre_scales_normal)
    ∧ quiescent_Quant (hQuant := hQuant)
    ∧ quiescent_QuantIdeal (hQuantIdeal := hQuantIdeal)
    ∧ quiescent_QuantIdeal_pre_blocks_normal (hQuantIdeal := hQuantIdeal) (hPre_blocks_normal := hPre_blocks_normal)
    ∧ quiescent_QuantReferenceIdeal (hQuantReferenceIdeal := hQuantReferenceIdeal)
    ∧ quiescent_QuantReferenceIdeal_pre_blocks_normal (hQuantReferenceIdeal := hQuantReferenceIdeal) (hPre_blocks_normal := hPre_blocks_normal)
    ∧ preserves_Kernel_KernelIdeal
    ∧ algebraic_KernelIdeal_ReferenceIdeal_pre_scales_normal (hKernelIdeal := hKernelIdeal) (hReferenceIdeal := hReferenceIdeal) (hPre_scales_normal := hPre_scales_normal)
    ∧ preserves_Quant_QuantIdeal
    ∧ algebraic_QuantIdeal_QuantReferenceIdeal_pre_blocks_normal (hQuantIdeal := hQuantIdeal) (hQuantReferenceIdeal := hQuantReferenceIdeal) (hPre_blocks_normal := hPre_blocks_normal)
-- ==== Pre_blocks_normal.lean ====
abbrev S16x1024x2560 : Shape := ⟨3, ![16, 1024, 2560]⟩
abbrev S32 : Shape := ⟨1, ![32]⟩
abbrev S32x1 : Shape := ⟨2, ![32, 1]⟩
abbrev S1x32 : Shape := ⟨2, ![1, 32]⟩
abbrev S32x32 : Shape := ⟨2, ![32, 32]⟩
abbrev S_ : Shape := ⟨0, ![]⟩
abbrev S1310720x32 : Shape := ⟨2, ![1310720, 32]⟩
abbrev S1310720x32x1 : Shape := ⟨3, ![1310720, 32, 1]⟩
abbrev S1x32x32 : Shape := ⟨3, ![1, 32, 32]⟩
abbrev S1310720x32x32 : Shape := ⟨3, ![1310720, 32, 32]⟩
abbrev S1310720 : Shape := ⟨1, ![1310720]⟩

class Facts : Prop where
  bcast_S32_S32x1_0 : S32.BroadcastsInDim S32x1 (![0] : Fin 1 → Fin S32x1.rank)
  bcast_S32_S1x32_1 : S32.BroadcastsInDim S1x32 (![1] : Fin 1 → Fin S1x32.rank)
  bcast_S32x1_S32x32_0_1 : S32x1.BroadcastsInDim S32x32 (![0, 1] : Fin 2 → Fin S32x32.rank)
  bcast_S1x32_S32x32_0_1 : S1x32.BroadcastsInDim S32x32 (![0, 1] : Fin 2 → Fin S32x32.rank)
  bcast_S_S32x32 : S_.BroadcastsInDim S32x32 (![] : Fin 0 → Fin S32x32.rank)
  shapeCasts_S16x1024x2560_S1310720x32 : S16x1024x2560.ShapeCasts S1310720x32
  bitsLt_bf16_f32 : FTy.bits .bf16 < FTy.bits .f32
  bcast_S1310720x32_S1310720x32x1_0_1 : S1310720x32.BroadcastsInDim S1310720x32x1 (![0, 1] : Fin 2 → Fin S1310720x32x1.rank)
  bcast_S32x32_S1x32x32_1_2 : S32x32.BroadcastsInDim S1x32x32 (![1, 2] : Fin 2 → Fin S1x32x32.rank)
  bcast_S1310720x32x1_S1310720x32x32_0_1_2 : S1310720x32x1.BroadcastsInDim S1310720x32x32 (![0, 1, 2] : Fin 3 → Fin S1310720x32x32.rank)
  bcast_S1x32x32_S1310720x32x32_0_1_2 : S1x32x32.BroadcastsInDim S1310720x32x32 (![0, 1, 2] : Fin 3 → Fin S1310720x32x32.rank)
  reducesTo_S1310720x32x32_S1310720x32_d1 : S1310720x32x32.ReducesTo [1] S1310720x32
  h_S_ : 0 < S_.numel
  bcast_S_S1310720x32 : S_.BroadcastsInDim S1310720x32 (![] : Fin 0 → Fin S1310720x32.rank)
  reducesTo_S1310720x32_S1310720_d1 : S1310720x32.ReducesTo [1] S1310720
  bcast_S_S1310720 : S_.BroadcastsInDim S1310720 (![] : Fin 0 → Fin S1310720.rank)
  reducesTo_S1310720_S_d0 : S1310720.ReducesTo [0] S_

variable [Facts]

def fn_part2 {F : FTy → Type} [FloatOps F] (main_v32 : FVec F S1310720 .f32) (main_v34 : IVec S1310720 1) (main_v36 : IVec S1310720 1) : IVec S_ 1 :=
  let main_cst_9 : FVec F S_ .f32 := constant S_ .f32 0x7F000000#32
  let main_v37 : FVec F S1310720 .f32 := broadcastInDim S1310720 ![] bcast_S_S1310720 main_cst_9
  let main_v38 : IVec S1310720 1 := cmpf .olt main_v32 main_v37
  let main_v39 : IVec S1310720 1 := andi main_v36 main_v38
  let main_v40 : IVec S1310720 1 := ori main_v34 main_v39
  let main_c_10 : IVec S_ 1 := constantI S_ 1 1#1
  let main_v41 : IVec S_ 1 := (fun x v => Host.reduce IntOp.andi x v reducesTo_S1310720_S_d0 h_S_) main_v40 main_c_10
  main_v41

def fn_part1 {F : FTy → Type} [FloatOps F] (main_v20 : FVec F S1310720x32x32 .f32) : IVec S_ 1 :=
  let main_cst : FVec F S_ .f32 := constant S_ .f32 0x00000000#32
  let main_v21 : FVec F S1310720x32 .f32 := (fun x v => Host.reduceAdd x v reducesTo_S1310720x32x32_S1310720x32_d1 h_S_) main_v20 main_cst
  let main_cst_2 : FVec F S_ .f32 := constant S_ .f32 0x3E3504F3#32
  let main_v22 : FVec F S1310720x32 .f32 := broadcastInDim S1310720x32 ![] bcast_S_S1310720x32 main_cst_2
  let main_v23 : FVec F S1310720x32 .f32 := mulf main_v21 main_v22
  let main_v24 : FVec F S1310720x32 .f32 := mulf main_v23 main_v23
  let main_cst_3 : FVec F S_ .f32 := constant S_ .f32 0x00000000#32
  let main_v25 : FVec F S1310720 .f32 := (fun x v => Host.reduceAdd x v reducesTo_S1310720x32_S1310720_d1 h_S_) main_v24 main_cst_3
  let main_cst_4 : FVec F S_ .f32 := constant S_ .f32 0x42000000#32
  let main_v26 : FVec F S1310720 .f32 := broadcastInDim S1310720 ![] bcast_S_S1310720 main_cst_4
  let main_v27 : FVec F S1310720 .f32 := Host.divf main_v25 main_v26
  let main_v28 : FVec F S1310720 .f32 := Host.sqrt main_v27
  let main_cst_5 : FVec F S_ .f32 := constant S_ .f32 0x403AE148#32
  let main_v29 : FVec F S1310720 .f32 := broadcastInDim S1310720 ![] bcast_S_S1310720 main_cst_5
  let main_v30 : FVec F S1310720 .f32 := mulf main_v29 main_v28
  let main_cst_6 : FVec F S_ .f32 := constant S_ .f32 0x3E2AAAAB#32
  let main_v31 : FVec F S1310720 .f32 := broadcastInDim S1310720 ![] bcast_S_S1310720 main_cst_6
  let main_v32 : FVec F S1310720 .f32 := mulf main_v30 main_v31
  let main_cst_7 : FVec F S_ .f32 := constant S_ .f32 0x00000000#32
  let main_v33 : FVec F S1310720 .f32 := broadcastInDim S1310720 ![] bcast_S_S1310720 main_cst_7
  let main_v34 : IVec S1310720 1 := cmpf .oeq main_v28 main_v33
  let main_cst_8 : FVec F S_ .f32 := constant S_ .f32 0x00800000#32
  let main_v35 : FVec F S1310720 .f32 := broadcastInDim S1310720 ![] bcast_S_S1310720 main_cst_8
  let main_v36 : IVec S1310720 1 := cmpf .oge main_v32 main_v35
  fn_part2 (F := F) main_v32 main_v34 main_v36

def fn {F : FTy → Type} [FloatOps F] (main_arg0 : FVec F S16x1024x2560 .bf16) : IVec S_ 1 :=
  let main_v0 : IVec S32 32 := iotaInDim S32 32 0
  let main_v1 : IVec S32x1 32 := broadcastInDim S32x1 ![0] bcast_S32_S32x1_0 main_v0
  let main_v2 : IVec S1x32 32 := broadcastInDim S1x32 ![1] bcast_S32_S1x32_1 main_v0
  let main_v3 : IVec S32x32 32 := broadcastInDim S32x32 ![0, 1] bcast_S32x1_S32x32_0_1 main_v1
  let main_v4 : IVec S32x32 32 := broadcastInDim S32x32 ![0, 1] bcast_S1x32_S32x32_0_1 main_v2
  let main_v5 : IVec S32x32 32 := andi main_v3 main_v4
  let main_v6 : IVec S32x32 32 := ctpop main_v5
  let main_c : IVec S_ 32 := constantI S_ 32 1#32
  let main_v7 : IVec S32x32 32 := broadcastInDim S32x32 ![] bcast_S_S32x32 main_c
  let main_v8 : IVec S32x32 32 := andi main_v6 main_v7
  let main_c_0 : IVec S_ 32 := constantI S_ 32 2#32
  let main_v9 : IVec S32x32 32 := broadcastInDim S32x32 ![] bcast_S_S32x32 main_c_0
  let main_v10 : IVec S32x32 32 := muli main_v9 main_v8
  let main_c_1 : IVec S_ 32 := constantI S_ 32 1#32
  let main_v11 : IVec S32x32 32 := broadcastInDim S32x32 ![] bcast_S_S32x32 main_c_1
  let main_v12 : IVec S32x32 32 := subi main_v11 main_v10
  let main_v13 : FVec F S32x32 .f32 := sitofp .f32 main_v12
  let main_v14 : FVec F S1310720x32 .bf16 := shapeCast S1310720x32 main_arg0 shapeCasts_S16x1024x2560_S1310720x32
  let main_v15 : FVec F S1310720x32 .f32 := (extf .f32 · bitsLt_bf16_f32) main_v14
  let main_v16 : FVec F S1310720x32x1 .f32 := broadcastInDim S1310720x32x1 ![0, 1] bcast_S1310720x32_S1310720x32x1_0_1 main_v15
  let main_v17 : FVec F S1x32x32 .f32 := broadcastInDim S1x32x32 ![1, 2] bcast_S32x32_S1x32x32_1_2 main_v13
  let main_v18 : FVec F S1310720x32x32 .f32 := broadcastInDim S1310720x32x32 ![0, 1, 2] bcast_S1310720x32x1_S1310720x32x32_0_1_2 main_v16
  let main_v19 : FVec F S1310720x32x32 .f32 := broadcastInDim S1310720x32x32 ![0, 1, 2] bcast_S1x32x32_S1310720x32x32_0_1_2 main_v17
  let main_v20 : FVec F S1310720x32x32 .f32 := mulf main_v18 main_v19
  fn_part1 (F := F) main_v20
-- ==== Pre_scales_normal.lean ====
abbrev S16384x2560 : Shape := ⟨2, ![16384, 2560]⟩
abbrev S10240x2560 : Shape := ⟨2, ![10240, 2560]⟩
abbrev S10240x80 : Shape := ⟨2, ![10240, 80]⟩
abbrev S_ : Shape := ⟨0, ![]⟩

class Facts : Prop where
  bcast_S_S10240x80 : S_.BroadcastsInDim S10240x80 (![] : Fin 0 → Fin S10240x80.rank)
  reducesTo_S10240x80_S_d0_1 : S10240x80.ReducesTo [0, 1] S_
  h_S_ : 0 < S_.numel

variable [Facts]

def fn {F : FTy → Type} [FloatOps F] (main_arg0 : FVec F S16384x2560 .bf16) (main_arg1 : FVec F S10240x2560 .fp8e4m3) (main_arg2 : IVec S10240x80 8) : IVec S_ 1 :=
  let main_c : IVec S_ 8 := constantI S_ 8 1#8
  let main_v0 : IVec S10240x80 8 := broadcastInDim S10240x80 ![] bcast_S_S10240x80 main_c
  let main_v1 : IVec S10240x80 1 := cmpi .uge main_arg2 main_v0
  let main_c_0 : IVec S_ 8 := constantI S_ 8 254#8
  let main_v2 : IVec S10240x80 8 := broadcastInDim S10240x80 ![] bcast_S_S10240x80 main_c_0
  let main_v3 : IVec S10240x80 1 := cmpi .ule main_arg2 main_v2
  let main_v4 : IVec S10240x80 1 := andi main_v1 main_v3
  let main_c_1 : IVec S_ 1 := constantI S_ 1 1#1
  let main_v5 : IVec S_ 1 := (fun x v => Host.reduce IntOp.andi x v reducesTo_S10240x80_S_d0_1 h_S_) main_v4 main_c_1
  main_v5
-- ==== Kernel.lean ====
abbrev S16384x2560 : Shape := ⟨2, ![16384, 2560]⟩
abbrev S10240x2560 : Shape := ⟨2, ![10240, 2560]⟩
abbrev S10240x80 : Shape := ⟨2, ![10240, 80]⟩
abbrev S512x2560 : Shape := ⟨2, ![512, 2560]⟩
abbrev S512x80 : Shape := ⟨2, ![512, 80]⟩
abbrev S32x80 : Shape := ⟨2, ![32, 80]⟩
abbrev S32x48 : Shape := ⟨2, ![32, 48]⟩
abbrev S32x128 : Shape := ⟨2, ![32, 128]⟩
abbrev S32x128x1 : Shape := ⟨3, ![32, 128, 1]⟩
abbrev S16384x10240 : Shape := ⟨2, ![16384, 10240]⟩
abbrev S1024x2560 : Shape := ⟨2, ![1024, 2560]⟩
abbrev S2560x2560 : Shape := ⟨2, ![2560, 2560]⟩

abbrev nBuf : Space → Nat
  | .hbm => 5
  | .vmem => 12
  | .smem => 0
  | _ => 0

abbrev bufTy : (tb : Table) → Fin (tcTables nBuf tb) → BufTy
  | .hbm, ⟨0, _⟩ => ⟨S16384x2560, .bf16⟩
  | .hbm, ⟨1, _⟩ => ⟨S10240x2560, .fp8e4m3⟩
  | .hbm, ⟨2, _⟩ => ⟨S10240x80, .i8⟩
  | .hbm, ⟨3, _⟩ => ⟨S10240x2560, .bf16⟩
  | .hbm, ⟨4, _⟩ => ⟨S16384x10240, .bf16⟩
  | .local _ .vmem, ⟨0, _⟩ => ⟨S512x2560, .fp8e4m3⟩
  | .local _ .vmem, ⟨1, _⟩ => ⟨S512x2560, .fp8e4m3⟩
  | .local _ .vmem, ⟨2, _⟩ => ⟨S512x80, .i8⟩
  | .local _ .vmem, ⟨3, _⟩ => ⟨S512x80, .i8⟩
  | .local _ .vmem, ⟨4, _⟩ => ⟨S512x2560, .bf16⟩
  | .local _ .vmem, ⟨5, _⟩ => ⟨S512x2560, .bf16⟩
  | .local _ .vmem, ⟨6, _⟩ => ⟨S1024x2560, .bf16⟩
  | .local _ .vmem, ⟨7, _⟩ => ⟨S1024x2560, .bf16⟩
  | .local _ .vmem, ⟨8, _⟩ => ⟨S2560x2560, .bf16⟩
  | .local _ .vmem, ⟨9, _⟩ => ⟨S2560x2560, .bf16⟩
  | .local _ .vmem, ⟨10, _⟩ => ⟨S1024x2560, .bf16⟩
  | .local _ .vmem, ⟨11, _⟩ => ⟨S1024x2560, .bf16⟩
  | _, _ => ⟨S16384x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2560 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x80 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2560 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![16, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x2560 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S2560x2560 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x2560 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]
-- ==== ReferenceIdeal.lean ====
abbrev S16384x2560 : Shape := ⟨2, ![16384, 2560]⟩
abbrev S10240x2560 : Shape := ⟨2, ![10240, 2560]⟩
abbrev S10240x80 : Shape := ⟨2, ![10240, 80]⟩
abbrev S16384x10240 : Shape := ⟨2, ![16384, 10240]⟩
abbrev S10240x80x32 : Shape := ⟨3, ![10240, 80, 32]⟩
abbrev S10240x80x1 : Shape := ⟨3, ![10240, 80, 1]⟩

abbrev nBuf : Space → Nat
  | .hbm => 4
  | .vmem => 4
  | .smem => 0
  | _ => 0

abbrev bufTy : (tb : Table) → Fin (tcTables nBuf tb) → BufTy
  | .hbm, ⟨0, _⟩ => ⟨S16384x2560, .bf16⟩
  | .hbm, ⟨1, _⟩ => ⟨S10240x2560, .fp8e4m3⟩
  | .hbm, ⟨2, _⟩ => ⟨S10240x80, .i8⟩
  | .hbm, ⟨3, _⟩ => ⟨S16384x10240, .bf16⟩
  | .local _ .vmem, ⟨0, _⟩ => ⟨S16384x2560, .bf16⟩
  | .local _ .vmem, ⟨1, _⟩ => ⟨S10240x2560, .fp8e4m3⟩
  | .local _ .vmem, ⟨2, _⟩ => ⟨S10240x80, .i8⟩
  | .local _ .vmem, ⟨3, _⟩ => ⟨S16384x10240, .bf16⟩
  | _, _ => ⟨S16384x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S16384x2560 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S10240x2560 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S10240x80 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16384x10240 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Quant.lean ====
abbrev S16x1024x2560 : Shape := ⟨3, ![16, 1024, 2560]⟩
abbrev S256x256 : Shape := ⟨2, ![256, 256]⟩
abbrev S16384x2560 : Shape := ⟨2, ![16384, 2560]⟩
abbrev S16384x80 : Shape := ⟨2, ![16384, 80]⟩
abbrev S16384x320 : Shape := ⟨2, ![16384, 320]⟩
abbrev S256x2560 : Shape := ⟨2, ![256, 2560]⟩
abbrev S256x80 : Shape := ⟨2, ![256, 80]⟩
abbrev S256x320 : Shape := ⟨2, ![256, 320]⟩
abbrev S32x128 : Shape := ⟨2, ![32, 128]⟩
abbrev S32x128x1 : Shape := ⟨3, ![32, 128, 1]⟩
abbrev S8x128 : Shape := ⟨2, ![8, 128]⟩
abbrev S8x128x1 : Shape := ⟨3, ![8, 128, 1]⟩
abbrev S32x80 : Shape := ⟨2, ![32, 80]⟩
abbrev S32x384 : Shape := ⟨2, ![32, 384]⟩
abbrev S32x320 : Shape := ⟨2, ![32, 320]⟩

abbrev nBuf : Space → Nat
  | .hbm => 7
  | .vmem => 12
  | .smem => 0
  | _ => 0

abbrev bufTy : (tb : Table) → Fin (tcTables nBuf tb) → BufTy
  | .hbm, ⟨0, _⟩ => ⟨S16x1024x2560, .bf16⟩
  | .hbm, ⟨1, _⟩ => ⟨S256x256, .bf16⟩
  | .hbm, ⟨2, _⟩ => ⟨S16384x2560, .bf16⟩
  | .hbm, ⟨3, _⟩ => ⟨S16384x2560, .bf16⟩
  | .hbm, ⟨4, _⟩ => ⟨S16384x2560, .fp8e4m3⟩
  | .hbm, ⟨5, _⟩ => ⟨S16384x80, .i8⟩
  | .hbm, ⟨6, _⟩ => ⟨S16384x320, .i8⟩
  | .local _ .vmem, ⟨0, _⟩ => ⟨S256x2560, .bf16⟩
  | .local _ .vmem, ⟨1, _⟩ => ⟨S256x2560, .bf16⟩
  | .local _ .vmem, ⟨2, _⟩ => ⟨S256x256, .bf16⟩
  | .local _ .vmem, ⟨3, _⟩ => ⟨S256x2560, .bf16⟩
  | .local _ .vmem, ⟨4, _⟩ => ⟨S256x2560, .bf16⟩
  | .local _ .vmem, ⟨5, _⟩ => ⟨S256x2560, .fp8e4m3⟩
  | .local _ .vmem, ⟨6, _⟩ => ⟨S256x2560, .fp8e4m3⟩
  | .local _ .vmem, ⟨7, _⟩ => ⟨S256x80, .i8⟩
  | .local _ .vmem, ⟨8, _⟩ => ⟨S256x80, .i8⟩
  | .local _ .vmem, ⟨9, _⟩ => ⟨S256x320, .i8⟩
  | .local _ .vmem, ⟨10, _⟩ => ⟨S256x320, .i8⟩
  | .local _ .vmem, ⟨11, _⟩ => ⟨S256x2560, .f32⟩
  | _, _ => ⟨S16x1024x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v1_2 : Ref sig .tc := ⟨.hbm, 5, rfl⟩
abbrev main_v1_3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2560 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2560 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2560 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x80 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x320 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== QuantReferenceIdeal.lean ====
abbrev S16x1024x2560 : Shape := ⟨3, ![16, 1024, 2560]⟩
abbrev S16384x2560 : Shape := ⟨2, ![16384, 2560]⟩
abbrev S16384x80 : Shape := ⟨2, ![16384, 80]⟩
abbrev S16384x320 : Shape := ⟨2, ![16384, 320]⟩
abbrev S32x32 : Shape := ⟨2, ![32, 32]⟩
abbrev S1310720x32 : Shape := ⟨2, ![1310720, 32]⟩
abbrev S1310720 : Shape := ⟨1, ![1310720]⟩
abbrev S1310720x1 : Shape := ⟨2, ![1310720, 1]⟩
abbrev S1x254 : Shape := ⟨2, ![1, 254]⟩
abbrev S1310720x254 : Shape := ⟨2, ![1310720, 254]⟩
abbrev S5242880x8 : Shape := ⟨2, ![5242880, 8]⟩
abbrev S1x8 : Shape := ⟨2, ![1, 8]⟩
abbrev S5242880 : Shape := ⟨1, ![5242880]⟩
abbrev S5242880x1 : Shape := ⟨2, ![5242880, 1]⟩

abbrev nBuf : Space → Nat
  | .hbm => 6
  | .vmem => 5
  | .smem => 0
  | _ => 0

abbrev bufTy : (tb : Table) → Fin (tcTables nBuf tb) → BufTy
  | .hbm, ⟨0, _⟩ => ⟨S16x1024x2560, .bf16⟩
  | .hbm, ⟨1, _⟩ => ⟨S16384x2560, .bf16⟩
  | .hbm, ⟨2, _⟩ => ⟨S16384x2560, .bf16⟩
  | .hbm, ⟨3, _⟩ => ⟨S16384x2560, .fp8e4m3⟩
  | .hbm, ⟨4, _⟩ => ⟨S16384x80, .i8⟩
  | .hbm, ⟨5, _⟩ => ⟨S16384x320, .i8⟩
  | .local _ .vmem, ⟨0, _⟩ => ⟨S16384x2560, .bf16⟩
  | .local _ .vmem, ⟨1, _⟩ => ⟨S16384x2560, .bf16⟩
  | .local _ .vmem, ⟨2, _⟩ => ⟨S16384x2560, .fp8e4m3⟩
  | .local _ .vmem, ⟨3, _⟩ => ⟨S16384x80, .i8⟩
  | .local _ .vmem, ⟨4, _⟩ => ⟨S16384x320, .i8⟩
  | _, _ => ⟨S16x1024x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1_0 : Ref sig .tc := ⟨.hbm, 2, rfl⟩
abbrev main_v1_1 : Ref sig .tc := ⟨.hbm, 3, rfl⟩
abbrev main_v1_2 : Ref sig .tc := ⟨.hbm, 4, rfl⟩
abbrev main_v1_3 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S16384x2560 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16384x2560 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16384x2560 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16384x80 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16384x320 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.Tile.lean ====
/-
  The weight tile of the first call: the 320 stores of its body, one per 32 rows by 128 lanes, leave in the output
  buffer one function of the two input blocks, each code times the power of two its scale byte stands for.
-/
module

public import proofs.«01_k».proof.Proof.Gen.Kernel.Skeleton
public import Idealize.ShloMosaic.Lib.Pipeline.FrameBody
public import Idealize.ShloMosaic.Lib.Pipeline.Value
public import Idealize.ShloMosaic.Lib.PointwiseCore
public import Idealize.ShloMosaic.Lib.Tactic

@[expose] public section

set_option maxRecDepth 16384

noncomputable section

namespace Cert.Kernel.WTile

open Idealize.ShloMosaic Cert.Kernel Cert.Kernel.Gen

variable {F : FTy → Type} [FloatOps F]

/-- The float a scale byte stands for: the byte as the exponent field of a binary32 word. -/
def scaleOf (b : BitVec 8) : F .f32 := FloatOps.ofBits .f32 ((b.setWidth 32) <<< 23)

/-- One weight: the code times its block's scale, both rounded to bf16. -/
def weight (code : F .fp8e4m3) (b : BitVec 8) : F .bf16 :=
  FloatOps.mulf (FloatOps.extf .bf16 bitsLt_fp8e4m3_bf16 code) (FloatOps.truncf .bf16 bitsLt_bf16_f32 (scaleOf b))

/-- The scale words of 32 rows: 80 bytes moved to the exponent field, then 48 lanes of zero. -/
def scaleWords (y : Vec F S32x80 .i8) : IVec S32x128 32 :=
  shli (concatenate S32x128 1 [⟨S32x80, extui 32 y natLt_8_32⟩, ⟨S32x48, broadcast S32x48 0#32⟩]
    concatenates_S32x80_S32x48_S32x128_d1) (broadcast S32x128 23#32)

/-- The lane index divided by 32 (rounding down), as the body computes it. -/
def laneDiv (v : IVec S32x128 32) : IVec S32x128 32 :=
  select
    (andi
      (cmpi .ne
        (subi (extui 32 (cmpi .sgt v (broadcast S32x128 0#32)) natLt_1_32)
          (extui 32 (cmpi .slt v (broadcast S32x128 0#32)) natLt_1_32))
        (broadcast S32x128 (Scalar.subi (Scalar.extui (Scalar.cmpi .sgt 32#32 0#32))
          (Scalar.extui (Scalar.cmpi .slt 32#32 0#32)))))
      (cmpi .ne (remsi v (broadcast S32x128 32#32)) (broadcast S32x128 0#32)))
    (subi (divsi v (broadcast S32x128 32#32)) (broadcast S32x128 1#32))
    (divsi v (broadcast S32x128 32#32))

/-- A negative index counted from the end. -/
def wrap (v : IVec S32x128 32) : IVec S32x128 32 :=
  select (cmpi .slt v (broadcast S32x128 0#32)) (addi v (broadcast S32x128 128#32)) v

/-- One chunk of 128 lanes, whose first block is number `off`: the codes times the scales gathered for them. -/
def chunk (s : IVec S32x128 32) (off : BitVec 32) (code : Vec F S32x128 .fp8e4m3) : FVec F S32x128 .bf16 :=
  mulf (extf .bf16 code bitsLt_fp8e4m3_bf16)
    (truncf .bf16
      (bitcastToFloat .f32
        (dynamicGather 1 s
          (shapeCast S32x128
            (shapeCast S32x128x1
              (wrap (addi (laneDiv (iota .tc S32x128 32 [1] iota_S32x128_d1_w32)) (broadcast S32x128 off)))
              shapeCasts_S32x128_S32x128x1)
            shapeCasts_S32x128x1_S32x128)))
      bitsLt_bf16_f32)

theorem inbW (k : Fin 320) : ∀ a, (![32 * (k.val / 20), 128 * (k.val % 20)] : Fin 2 → Nat) a + S32x128.size a ≤ S512x2560.size a := by
  intro a
  have h := k.isLt
  match a with
  | ⟨0, _⟩ => show 32 * (k.val / 20) + 32 ≤ 512; omega
  | ⟨1, _⟩ => show 128 * (k.val % 20) + 128 ≤ 2560; omega

theorem inbS (k : Fin 320) : ∀ a, (![32 * (k.val / 20), 0] : Fin 2 → Nat) a + S32x80.size a ≤ S512x80.size a := by
  intro a
  have h := k.isLt
  match a with
  | ⟨0, _⟩ => show 32 * (k.val / 20) + 32 ≤ 512; omega
  | ⟨1, _⟩ => show 0 + 80 ≤ 80; omega

/-- The rectangle of store `k`: 32 rows, 128 lanes. -/
abbrev rectW (k : Fin 320) : Rect S512x2560 := Rect.unit (s := S512x2560) ![32 * (k.val / 20), 128 * (k.val % 20)] S32x128.size (inbW k)
/-- The rectangle of the scale bytes of store `k`'s rows. -/
abbrev rectS (k : Fin 320) : Rect S512x80 := Rect.unit (s := S512x80) ![32 * (k.val / 20), 0] S32x80.size (inbS k)

/-- Store `k`: its rectangle and what it writes. -/
def piece (x0 : Vec F S512x2560 .fp8e4m3) (x1 : Vec F S512x80 .i8) (k : Fin 320) : View.Piece (Elt F) S512x2560 .bf16 :=
  ⟨rectW k, chunk (scaleWords (View.ld x1 (rectS k))) (BitVec.ofNat 32 (4 * (k.val % 20))) (View.ld x0 (rectW k))⟩

/-- The stores, last first. -/
def pieces (x0 : Vec F S512x2560 .fp8e4m3) (x1 : Vec F S512x80 .i8) : List (View.Piece (Elt F) S512x2560 .bf16) :=
  List.ofFn fun k : Fin 320 => piece x0 x1 ⟨319 - k.val, by omega⟩

/-- Every store is in the list. -/
theorem piece_mem (x0 : Vec F S512x2560 .fp8e4m3) (x1 : Vec F S512x80 .i8) (k : Fin 320) : piece x0 x1 k ∈ pieces x0 x1 := by
  unfold pieces
  rw [List.mem_ofFn]
  exact ⟨⟨319 - k.val, by omega⟩, congrArg (piece x0 x1) (Fin.ext (by show 319 - (319 - k.val) = k.val; omega))⟩

/-- The stores cover the tile: position (r, l) lies in store 20·(r / 32) + l / 128. -/
theorem cover (x0 : Vec F S512x2560 .fp8e4m3) (x1 : Vec F S512x80 .i8) (y : S512x2560.Idx) : ∃ p ∈ pieces x0 x1, y ∈ p.1.set := by
  have h0 : (y 0).val < 512 := (y 0).isLt
  have h1 : (y 1).val < 2560 := (y 1).isLt
  refine ⟨piece x0 x1 ⟨20 * ((y 0).val / 32) + (y 1).val / 128, by omega⟩, piece_mem x0 x1 _, ?_⟩
  refine (Rect.mem_set_unit (inb := inbW _)).mpr fun a => ?_
  match a with
  | ⟨0, _⟩ =>
    show 32 * ((20 * ((y 0).val / 32) + (y 1).val / 128) / 20) ≤ (y 0).val ∧ (y 0).val < 32 * ((20 * ((y 0).val / 32) + (y 1).val / 128) / 20) + 32
    omega
  | ⟨1, _⟩ =>
    show 128 * ((20 * ((y 0).val / 32) + (y 1).val / 128) % 20) ≤ (y 1).val ∧ (y 1).val < 128 * ((20 * ((y 0).val / 32) + (y 1).val / 128) % 20) + 128
    omega

/-- What the body leaves in the output's buffer. -/
def out0_2 (x0 : Vec F S512x2560 .fp8e4m3) (x1 : Vec F S512x80 .i8) : Vec F S512x2560 .bf16 := View.canon (pieces x0 x1)

/-- A buffer read back after a list of stores that is the list `L'`, which covers it. -/
theorem read_writes_of_eq {Val : EltTy → Type} [∀ e, Nonempty (Val e)] {sig : RefSig} {κ : Kind} {sp : Space} {s : Shape} {e : EltTy}
    (v : View sig κ sp s e) (f : v.ty.Contents Val) (L L' : List (View.Piece Val s e)) (h : L = L')
    (hc : ∀ y, ∃ p ∈ L', y ∈ p.1.set) : v.read Val (v.writes Val f L) = View.canon L' := by
  subst h; exact View.read_writes_eq_canon v f L hc

end Cert.Kernel.WTile

end
-- ==== Proof.TileValue.lean ====
/-
  The weight tile at an index: every position of the first call's output block is its code times the scale of its block
  of 32 lanes.
-/
module

public import proofs.«01_k».proof.Proof.Tile

@[expose] public section

set_option maxRecDepth 16384

noncomputable section

namespace Cert.Kernel.WTile

open Idealize.ShloMosaic Idealize.ShloMosaic.Pointwise Cert.Kernel Cert.Kernel.Gen

variable {F : FTy → Type} [FloatOps F]

/-- The index the gather takes in one lane, from the lane's number and the chunk's first block. -/
def laneWord (v off : BitVec 32) : BitVec 32 :=
  let q := IntOp.divsi .vector v 32#32
  let r := Scalar.select
    (IntOp.andi
      (IntOp.cmpi .ne (IntOp.subi ((IntOp.cmpi .sgt v 0#32).setWidth 32) ((IntOp.cmpi .slt v 0#32).setWidth 32))
        (Scalar.subi (Scalar.extui (Scalar.cmpi .sgt 32#32 0#32)) (Scalar.extui (Scalar.cmpi .slt 32#32 0#32))))
      (IntOp.cmpi .ne (IntOp.remsi .vector v 32#32) 0#32))
    (IntOp.subi q 1#32) q
  let w := IntOp.addi r off
  Scalar.select (IntOp.cmpi .slt w 0#32) (IntOp.addi w 128#32) w

/-- Lane `l` of chunk `c` takes the scale of block `l / 32 + 4·c`. -/
theorem laneWord_eq : ∀ (c : Fin 20) (l : Fin 128), (laneWord (BitVec.ofNat 32 l.val) (BitVec.ofNat 32 (4 * c.val))).toNat = l.val / 32 + 4 * c.val := by
  decide +kernel

theorem lanes_apply (off : BitVec 32) (i : S32x128.Idx) :
    wrap (addi (laneDiv (iota .tc S32x128 32 [1] iota_S32x128_d1_w32)) (broadcast S32x128 off)) i
      = laneWord (BitVec.ofNat 32 (i 1).val) off := by
  have h : iota .tc S32x128 32 [1] iota_S32x128_d1_w32 i = BitVec.ofNat 32 (i 1).val := by
    show BitVec.ofNat 32 (0 * 128 + (i 1).val) = _
    rw [Nat.zero_mul, Nat.zero_add]
  rw [← h]
  rfl

theorem cast_back (v : IVec S32x128 32) :
    shapeCast S32x128 (shapeCast S32x128x1 v shapeCasts_S32x128_S32x128x1) shapeCasts_S32x128x1_S32x128 = v := by
  funext i
  idx_vars i
  pointwise

/-- A scale word in one of the 80 lanes that hold one. -/
theorem scaleWords_apply (y : Vec F S32x80 .i8) (r : Fin 32) (q : Fin 80) (i : S32x128.Idx) (h0 : (i 0).val = r.val) (h1 : (i 1).val = q.val) :
    scaleWords y i = (BitVec.setWidth 32 (y (ix2 r q) : BitVec 8)) <<< 23 := by
  have hc : concatenate S32x128 1 [⟨S32x80, extui 32 y natLt_8_32⟩, ⟨S32x48, broadcast S32x48 0#32⟩]
      concatenates_S32x80_S32x48_S32x128_d1 i = extui 32 y natLt_8_32 (ix2 r q) :=
    concatenate_pair_apply_left (s₁ := S32x80) (s₂ := S32x48) 1 (extui 32 y natLt_8_32) _ _ i rfl (ix2 r q) fun b => by
      match b with
      | ⟨0, _⟩ => exact h0.symm
      | ⟨1, _⟩ => exact h1.symm
  show IntOp.shli .vector (concatenate S32x128 1 [⟨S32x80, extui 32 y natLt_8_32⟩, ⟨S32x48, broadcast S32x48 0#32⟩]
      concatenates_S32x80_S32x48_S32x128_d1 i) 23#32 = _
  rw [hc]
  rfl

/-- One chunk of the tile at an index. -/
theorem chunk_apply (y : Vec F S32x80 .i8) (c : Fin 20) (code : Vec F S32x128 .fp8e4m3) (i : S32x128.Idx) (r : Fin 32) (q : Fin 80)
    (h0 : (i 0).val = r.val) (h1 : (i 1).val / 32 + 4 * c.val = q.val) :
    chunk (scaleWords y) (BitVec.ofNat 32 (4 * c.val)) code i = weight (code i) (y (ix2 r q)) := by
  show FloatOps.mulf (FloatOps.extf .bf16 _ (code i)) (FloatOps.truncf .bf16 _ (FloatOps.ofBits .f32
    (dynamicGather 1 (scaleWords y) (shapeCast S32x128 (shapeCast S32x128x1 (wrap (addi (laneDiv (iota .tc S32x128 32 [1] iota_S32x128_d1_w32))
      (broadcast S32x128 (BitVec.ofNat 32 (4 * c.val))))) shapeCasts_S32x128_S32x128x1) shapeCasts_S32x128x1_S32x128) i))) = _
  rw [cast_back]
  have hw : dynamicGather 1 (scaleWords y) (wrap (addi (laneDiv (iota .tc S32x128 32 [1] iota_S32x128_d1_w32))
      (broadcast S32x128 (BitVec.ofNat 32 (4 * c.val))))) i = (BitVec.setWidth 32 (y (ix2 r q) : BitVec 8)) <<< 23 :=
    scaleWords_apply y r q _ h0 (by
      show (wrap (addi (laneDiv (iota .tc S32x128 32 [1] iota_S32x128_d1_w32))
        (broadcast S32x128 (BitVec.ofNat 32 (4 * c.val)))) i).toNat % 128 = q.val
      rw [lanes_apply]
      have := laneWord_eq c (i 1)
      have := q.isLt
      omega)
  rw [hw]
  rfl

/-- The tile as one function of the two input blocks. -/
def tileFn (x0 : Vec F S512x2560 .fp8e4m3) (x1 : Vec F S512x80 .i8) : Vec F S512x2560 .bf16 :=
  fun i => weight (x0 i) (x1 (ix2 (i 0) ⟨(i 1).val / 32, by have : (i 1).val < 2560 := (i 1).isLt; omega⟩))

/-- What the body leaves in the output's buffer is that function. -/
theorem out0_2_eq (x0 : Vec F S512x2560 .fp8e4m3) (x1 : Vec F S512x80 .i8) : out0_2 x0 x1 = tileFn x0 x1 := by
  funext i
  refine View.canon_apply_of_pieces (tileFn x0 x1) (pieces x0 x1) ?_ i (cover x0 x1 i)
  intro p hp
  unfold pieces at hp
  rw [List.mem_ofFn] at hp
  obtain ⟨k', rfl⟩ := hp
  generalize (⟨319 - k'.val, by omega⟩ : Fin 320) = k
  intro x
  have hk := k.isLt
  have hx0 : (x 0).val < 32 := (x 0).isLt
  have hx1 : (x 1).val < 128 := (x 1).isLt
  have e := chunk_apply (View.ld x1 (rectS k)) ⟨k.val % 20, Nat.mod_lt _ (by decide)⟩ (View.ld x0 (rectW k)) x
    ⟨(x 0).val, hx0⟩ ⟨(x 1).val / 32 + 4 * (k.val % 20), by omega⟩ rfl rfl
  refine e.trans ?_
  show weight (x0 ((rectW k).idx x)) (x1 ((rectS k).idx (ix2 _ _))) = weight (x0 ((rectW k).idx x)) (x1 _)
  congr 2
  funext a
  match a with
  | ⟨0, _⟩ => rfl
  | ⟨1, _⟩ =>
    apply Fin.ext
    show 0 + 1 * ((x 1).val / 32 + 4 * (k.val % 20)) = (128 * (k.val % 20) + 1 * (x 1).val) / 32
    omega

end Cert.Kernel.WTile

end
-- ==== Proof.Body0.lean ====
/-
  The first call, one step of its grid: the body takes the two input blocks to the weight tile.
-/
module

public import proofs.«01_k».proof.Proof.Tile
public import proofs.«01_k».proof.Proof.Gen.Kernel.Launch
public import proofs.«01_k».proof.Proof.Gen.Kernel.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.Kernel.Hand

open Cert.Kernel.Gen Cert.Kernel.WTile
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the call is entered
variable (V : (c : Dev nD) → (b : Ref sig .tc) → Buf (Elt F) ((c : Thread nD τ).loc b))

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

set_option maxHeartbeats 6776000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel0 (c : Dev nD) (E : Set ℕ) (i : grid0.Coords) (arg1 : Memref sig .tc .vmem S512x2560 .fp8e4m3) (harg1 : arg1.IsWhole) (arg2 : Memref sig .tc .vmem S512x80 .i8) (harg2 : arg2.IsWhole) (arg3 : Memref sig .tc .vmem S512x2560 .bf16) (harg3 : arg3.IsWhole)
    (x0 : Vec F S512x2560 .fp8e4m3) (x1 : Vec F S512x80 .i8) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0_w_prep i arg1 harg1 arg2 harg2 arg3 harg3) K := by
  simp only [cc0_w_prep_eq_skeleton]; unfold cc0_w_prep_skel
  simp only [k0_part297_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part298_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part299_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part300_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part301_eq_skeleton, k0_part241_eq_skeleton, k0_part242_eq_skeleton, k0_part243_eq_skeleton, k0_part244_eq_skeleton, k0_part245_eq_skeleton, k0_part246_eq_skeleton, k0_part247_eq_skeleton, k0_part248_eq_skeleton, k0_part249_eq_skeleton, k0_part250_eq_skeleton, k0_part251_eq_skeleton, k0_part252_eq_skeleton, k0_part253_eq_skeleton, k0_part254_eq_skeleton, k0_part255_eq_skeleton, k0_part256_eq_skeleton, k0_part257_eq_skeleton, k0_part258_eq_skeleton, k0_part259_eq_skeleton, k0_part260_eq_skeleton, k0_part261_eq_skeleton, k0_part262_eq_skeleton, k0_part263_eq_skeleton, k0_part264_eq_skeleton, k0_part265_eq_skeleton, k0_part266_eq_skeleton, k0_part267_eq_skeleton, k0_part268_eq_skeleton, k0_part269_eq_skeleton, k0_part270_eq_skeleton, k0_part271_eq_skeleton, k0_part272_eq_skeleton, k0_part273_eq_skeleton, k0_part274_eq_skeleton, k0_part275_eq_skeleton, k0_part276_eq_skeleton, k0_part277_eq_skeleton, k0_part278_eq_skeleton, k0_part279_eq_skeleton, k0_part280_eq_skeleton, k0_part281_eq_skeleton, k0_part282_eq_skeleton, k0_part283_eq_skeleton, k0_part284_eq_skeleton, k0_part285_eq_skeleton, k0_part286_eq_skeleton, k0_part287_eq_skeleton, k0_part288_eq_skeleton, k0_part289_eq_skeleton, k0_part290_eq_skeleton, k0_part291_eq_skeleton, k0_part292_eq_skeleton, k0_part293_eq_skeleton, k0_part294_eq_skeleton, k0_part295_eq_skeleton, k0_part296_eq_skeleton]
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  refine (read_writes_of_eq _ f2 _ (pieces (View.read (Elt F) _ f0) (View.read (Elt F) _ f1)) ?_ (cover _ _))
  sl_kernel_rfl

/-! ## The pipeline's proof data -/

/-- The proof data of pipeline 0 on core `c`: the arrays as the region finds them (`V`); after the body at
    point `t` each input's buffer at its block and each output's at `out0_W` of the input blocks; the invariant the
    class's (Lib/Pipeline/Frame.lean `ΦA`: the scoped rest and the generator register, untouched); nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`, never `rfl`: Lib/Pipeline.lean `Dat`). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks (`before0_W`), so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Cert.Kernel.Hand

end
-- ==== Proof.Body1.lean ====
/-
  The second call, one step of its grid: the body stores the product of its two input blocks.
-/
module

public import proofs.«01_k».proof.Proof.Gen.Kernel.Skeleton
public import proofs.«01_k».proof.Proof.Gen.Kernel.Launch
public import proofs.«01_k».proof.Proof.Gen.Kernel.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the call is entered
variable (V : (c : Dev nD) → (b : Ref sig .tc) → Buf (Elt F) ((c : Thread nD τ).loc b))

/-! # REGION 1 of @main: custom_call 1, `cc1_mm` (pipeline 1), at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev r1_0 : Rect S1024x2560 := Rect.unit (s := S1024x2560) ![0, 0] S1024x2560.size inb_S1024x2560_S1024x2560_0_0
abbrev r1_1 : Rect S2560x2560 := Rect.unit (s := S2560x2560) ![0, 0] S2560x2560.size inb_S2560x2560_S2560x2560_0_0

/-! ## What the body leaves in each output window's buffer -/

/-- Window 2's staging buffer after the body, from the input windows' blocks: its 1 store as pieces, LAST
    FIRST (Lib/Pipeline/FrameBody.lean `View.canon`; the payloads are the skeleton's). -/
def out1_2 (x0 : Vec F S1024x2560 .bf16) (x1 : Vec F S2560x2560 .bf16) : Vec F S1024x2560 .bf16 :=
  View.canon [⟨r1_0, k1_pay1 (View.ld x0 r1_0) (View.ld x1 r1_1)⟩]

/-- Its stores tile the buffer (checked by evaluation), so they cover it. -/
theorem cover1_2 (p0 : Vec F S1024x2560 .bf16) (y : S1024x2560.Idx) :
    ∃ pc ∈ ([⟨r1_0, p0⟩] : List (View.Piece (Elt F) S1024x2560 .bf16)), y ∈ pc.1.set :=
  View.cover_of_tiled [⟨r1_0, p0⟩] S1024x2560.size (by rfl) y

/-! ## The body's triple -/

set_option maxHeartbeats 1000000 in
/-- The kernel body on whole staging memrefs, the inputs' at read contents `xW` and the outputs' at anything, runs to
    the continuation holding the inputs' as they were and each output's at `out1_W` of the inputs': the printed functions
    are their skeletons (`Gen.*_eq_skeleton`), which `sl_exec` runs (Lib/Exec.lean), through every part call. -/
theorem sound_kernel1 (c : Dev nD) (E : Set ℕ) (i : grid1.Coords) (arg2 : Memref sig .tc .vmem S1024x2560 .bf16) (harg2 : arg2.IsWhole) (arg3 : Memref sig .tc .vmem S2560x2560 .bf16) (harg3 : arg3.IsWhole) (arg4 : Memref sig .tc .vmem S1024x2560 .bf16) (harg4 : arg4.IsWhole)
    (x0 : Vec F S1024x2560 .bf16) (x1 : Vec F S2560x2560 .bf16) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out1_2 x0 x1)) -∗ K ⟨⟩))
      ⊢ wp frame (wpE (defs₀ (F := F)) Variants.none c none) E (cc1_mm i arg2 harg2 arg3 harg3 arg4 harg4) K := by
  simp only [cc1_mm_eq_skeleton]; unfold cc1_mm_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The pipeline's proof data -/

/-- The proof data of pipeline 1 on core `c`: the arrays as the region finds them (`V`); after the body at
    point `t` each input's buffer at its block and each output's at `out1_W` of the input blocks; the invariant the
    class's (Lib/Pipeline/Frame.lean `ΦA`: the scoped rest and the generator register, untouched); nothing owed;
    full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

/-- The proof data's arrays are the region-entry contents, by projecting the definition (`dsimp`): a region record cites
    this for its arrays rather than have Lean unfold `V`, the fold through @main up to the region's entry. -/
theorem A_eq1 (c : Dev nD) (w : Fin cfg1.W) : (dat1 V c).A w = V c (Pipeline.arrRef spec1 w) := by
  dsimp only [dat1]

/-- What the body leaves, window by window (the proof data's `match` reduced by `dsimp`, never `rfl`: Lib/Pipeline.lean `Dat`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t` (Lib/Pipeline.lean `BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold their blocks (`before1_W`), so `sound_kernel1` applies; the invariant and
    the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ (grid1.coords t) _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

/-- @main's argument arrays, as TensorCore references: what the frame claim reads back. -/
abbrev argRefs : List (Ref sig .tc) := [main_arg0, main_arg1, main_arg2]

end Cert.Kernel.Hand

end
-- ==== Proof.Run.lean ====
/-
  The run of both calls: the contents of every buffer after each call, and what every final state holds.
-/
module

public import proofs.«01_k».proof.Proof.Body0
public import proofs.«01_k».proof.Proof.Body1

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary: a fold through @main, and what each item leaves unchanged -/

/-- Core `c`'s buffers at launch (region 0's entry). -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- The same read at the TensorCore's references (what region 0's proof data take). -/
abbrev V0 : (c : Dev nD) → (b : Ref sig .tc) → Buf (Elt F) ((c : Thread nD τ).loc b) := fun c b => W0 m ρ c b
/-- At region 0's exit: its arrays at what the pipeline leaves (the inputs as entered, each output's write-backs
    folded: `Dat.arrAt … N`), every other buffer as entered (Lib/Pipeline/FrameSuffix.lean `withArrays`) (region 1's entry). -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
/-- A reference that is none of region 0's OUTPUT arrays keeps its entry contents across it: an input window's
    array is never written back (`Dat.arrAt_in`, `A_eq0`); any other buffer is left as is. -/
theorem W1_of (c : Dev nD) (r : Ref sig .tc) (h : ∀ w : Fin cfg0.W, Pipeline.arrRef spec0 w = r → (cfg0.win w).isOut = false) :
    W1 m ρ c (Proc.devRef .tc r) = W0 m ρ c (Proc.devRef .tc r) := by
  by_cases hw : ∃ w : Fin cfg0.W, Pipeline.arrRef spec0 w = r
  · obtain ⟨w, rfl⟩ := hw
    exact (W1_arr m ρ c w).trans (((dat0 (V0 m ρ) c).arrAt_in w (h w rfl) _).trans (A_eq0 (V0 m ρ) c w))
  · exact W1_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W1_args (c : Dev nD) : ∀ a ∈ argRefs, W1 m ρ c (Proc.devRef .tc a) = m ((c : Thread nD τ).loc a) :=
  fun a ha => (W1_of m ρ c a (argsIn0 a ha)).trans (W0_args m ρ c a ha)
/-- The same read at the TensorCore's references (region 0's exit contents). -/
abbrev V1 : (c : Dev nD) → (b : Ref sig .tc) → Buf (Elt F) ((c : Thread nD τ).loc b) := fun c b => W1 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- At region 1's exit: its arrays at what the pipeline leaves (the inputs as entered, each output's write-backs
    folded: `Dat.arrAt … N`), every other buffer as entered (Lib/Pipeline/FrameSuffix.lean `withArrays`). -/
def W2 (c : Dev nD) : Valuation τ sig (Elt F) :=
  Pipeline.withArrays spec1 c (W1 m ρ c) fun w => (dat1 (V1 m ρ) c).arrAt w cfg1.N
theorem W2_arr (c : Dev nD) (w : Fin cfg1.W) :
    W2 m ρ c (Proc.devRef .tc (Pipeline.arrRef spec1 w)) = (dat1 (V1 m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
/-- A reference that is none of region 1's OUTPUT arrays keeps its entry contents across it: an input window's
    array is never written back (`Dat.arrAt_in`, `A_eq1`); any other buffer is left as is. -/
theorem W2_of (c : Dev nD) (r : Ref sig .tc) (h : ∀ w : Fin cfg1.W, Pipeline.arrRef spec1 w = r → (cfg1.win w).isOut = false) :
    W2 m ρ c (Proc.devRef .tc r) = W1 m ρ c (Proc.devRef .tc r) := by
  by_cases hw : ∃ w : Fin cfg1.W, Pipeline.arrRef spec1 w = r
  · obtain ⟨w, rfl⟩ := hw
    exact (W2_arr m ρ c w).trans (((dat1 (V1 m ρ) c).arrAt_in w (h w rfl) _).trans (A_eq1 (V1 m ρ) c w))
  · exact W2_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn1 a ha)).trans (W1_args m ρ c a ha)
/-- The same read at the TensorCore's references (region 1's exit contents). -/
abbrev V2 : (c : Dev nD) → (b : Ref sig .tc) → Buf (Elt F) ((c : Thread nD τ).loc b) := fun c b => W2 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V1 m ρ) c).arrAt w cfg1.N = V2 m ρ c (Pipeline.arrRef spec1 w) :=
  (W2_arr m ρ c w).symm
theorem hrest1 (c : Dev nD) : ∀ b, b ∉ Finset.univ.image (Pipeline.arrRef spec1) → V2 m ρ c b = V1 m ρ c b :=
  fun b hb => W2_of_ne m ρ c b fun w e => hb (Finset.mem_image.mpr ⟨w, Finset.mem_univ _, e⟩)

/-! ### The arguments end as launched: no host stretch writes one and no region may change one (a region reads it
    through an input window or bypasses it) -/

theorem W2_main_arg0 (c : Dev nD) : W2 m ρ c (Proc.devRef .tc main_arg0) = m ((c : Thread nD τ).loc main_arg0) :=
  W2_args m ρ c main_arg0 (by decide)
theorem W2_main_arg1 (c : Dev nD) : W2 m ρ c (Proc.devRef .tc main_arg1) = m ((c : Thread nD τ).loc main_arg1) :=
  W2_args m ρ c main_arg1 (by decide)
theorem W2_main_arg2 (c : Dev nD) : W2 m ρ c (Proc.devRef .tc main_arg2) = m ((c : Thread nD τ).loc main_arg2) :=
  W2_args m ρ c main_arg2 (by decide)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V1 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W2`, the generator register at some state. -/
abbrev Tₙ (c : Dev nD) : sProp 𝕄 := iprop(StableHlo.held (c : Thread nD τ) (Pipeline.ucRefs τ sig) (W2 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W0`, left at `W1`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) (A_eq0 (V0 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W1`, left at `W2`
    (what the launch reads at the end). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V1 m ρ c) (A_eq1 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V1 m ρ c) (V2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's 2 segments in order: a host segment per stretch from its boundary's contents, a region per pallas_call. -/
abbrev segs : List (Pipeline.Seg (pcfgs (F := F)) adm (pdats m ρ) () defs₀ 𝒱₀ L lv) :=
  [ .region (reg0 m ρ),
    .region (reg1 m ρ) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- The run, at any `F`: from any memory with zero counters every weakly fair execution of @main terminates, nothing
    faulting, and every final state has the argument arrays as launched, the result array at what the second call leaves,
    and every semaphore counter at zero. -/
theorem run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_v1) = W2 m ρ c (Proc.devRef .tc main_v1))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h hz => ⟨(fun c =>
      ⟨(h c _ (mem_uc main_arg0 (by decide))).trans (W2_main_arg0 m ρ c),
       (h c _ (mem_uc main_arg1 (by decide))).trans (W2_main_arg1 m ρ c),
       (h c _ (mem_uc main_arg2 (by decide))).trans (W2_main_arg2 m ρ c),
       h c _ (mem_uc main_v1 (by decide))⟩), funext fun g => hz g (.inr (no_unscoped g.2))⟩)

/-- The frame: the arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨(h.1 c).1, (h.1 c).2.1, (h.1 c).2.2.1⟩, h.2⟩) (run m ρ)

end Cert.Kernel.Hand

end
-- ==== Proof.KernelValue.lean ====
/-
  What the two calls leave: the weight array of the first, and over the reals the whole product of the second.
-/
module

public import proofs.«01_k».proof.Proof.TileValue
public import proofs.«01_k».proof.Proof.Run
public import Idealize.ShloMosaic.Lib.Pipeline.ValueKit.Geometry
public import Idealize.ShloMosaic.Lib.Pointwise

@[expose] public section

set_option maxRecDepth 16384

noncomputable section

namespace Cert.Kernel.Hand

open Idealize.ShloMosaic Idealize.ShloMosaic.TcCoe Idealize.ShloMosaic.Pointwise Idealize.SL.Sem
open Cert.Kernel Cert.Kernel.Gen Cert.Kernel.WTile

section First

variable {F : FTy → Type} [FloatOps F]
variable (V : (c : Dev nD) → (b : Ref sig .tc) → Buf (Elt F) ((c : Thread nD τ).loc b))

/-- The weights as one function of the codes and the scale bytes. -/
def weights (codes : Vec F S10240x2560 .fp8e4m3) (bytes : Vec F S10240x80 .i8) : Vec F S10240x2560 .bf16 :=
  fun i => weight (codes i) (bytes (ix2 (i 0) ⟨(i 1).val / 32, by have : (i 1).val < 2560 := (i 1).isLt; omega⟩))

theorem index0_0 : ∀ t : Fin cfg0.N, win0_0.index t = ![t.val, 0] := (by decide +kernel : ∀ t : Fin grid0.N, _)
theorem index0_1 : ∀ t : Fin cfg0.N, win0_1.index t = ![t.val, 0] := (by decide +kernel : ∀ t : Fin grid0.N, _)
theorem index0_2 : ∀ t : Fin cfg0.N, win0_2.index t = ![t.val, 0] := (by decide +kernel : ∀ t : Fin grid0.N, _)

theorem final0 (c : Dev nD) : (dat0 V c).arrAt 2 cfg0.N = weights (V c main_arg1) (V c main_arg2) := by
  refine (dat0 V c).arrAt_eq_of_covers 2 _ (by decide +kernel) fun t hf y => ?_
  blk_simp
  rw [after0_2, out0_2_eq]
  unfold tileFn weights
  blk_simp [iblk0]
  refine congrArg₂ weight (congrArg (V c main_arg1) ?_) (congrArg (V c main_arg2) ?_)
  · blk_ext [index0_0, index0_2]
  · blk_ext [index0_1, index0_2]

end First

section Second

variable (V : (c : Dev nD) → (b : Ref sig .tc) → Buf (Elt Ideal) ((c : Thread nD τ).loc b))

/-- Over the reals the product of the activations with the transposed weights. -/
def product (x : Vec Ideal S16384x2560 .bf16) (w : Vec Ideal S10240x2560 .bf16) : Vec Ideal S16384x10240 .bf16 :=
  fun i => (∑ k : Fin 2560, x (ix2 (i 0) k) * w (ix2 (i 1) k) : EReal)

theorem pay_apply (x : Vec Ideal S1024x2560 .bf16) (w : Vec Ideal S2560x2560 .bf16) (i : S1024x2560.Idx) :
    k1_pay1 x w i = (∑ k : Fin 2560, x (ix2 (i 0) k) * w (ix2 (i 1) k) : EReal) := by
  pointwise [k1_pay1]

theorem index1_0 : ∀ t : Fin cfg1.N, win1_0.index t = ![t.val / 4, 0] := (by decide +kernel : ∀ t : Fin grid1.N, _)
theorem index1_1 : ∀ t : Fin cfg1.N, win1_1.index t = ![t.val % 4, 0] := (by decide +kernel : ∀ t : Fin grid1.N, _)
theorem index1_2 : ∀ t : Fin cfg1.N, win1_2.index t = ![t.val / 4, t.val % 4] := (by decide +kernel : ∀ t : Fin grid1.N, _)

theorem hz : (![0, 0] : Fin 2 → Nat) = fun _ => 0 := funext fun a => by fin_cases a <;> rfl

theorem final1 (c : Dev nD) : (dat1 V c).arrAt 2 cfg1.N = product (V c main_arg0) (V c main_v0) := by
  refine (dat1 V c).arrAt_eq_of_covers 2 _ (by decide +kernel) fun t hf y => ?_
  blk_simp
  rw [after1_2]
  unfold out1_2
  rw [View.canon_unit_zero hz, View.ld_unit_zero hz, View.ld_unit_zero hz, pay_apply]
  unfold product
  refine Finset.sum_congr (M := EReal) rfl fun k _ => ?_
  blk_simp [iblk1]
  refine congrArg₂ (fun a b : EReal => a * b) (congrArg (V c main_arg0) ?_) (congrArg (V c main_v0) ?_)
  · blk_ext [index1_0, index1_2]
  · blk_ext [index1_1, index1_2]

end Second

end Cert.Kernel.Hand

end
-- ==== Proof.Same.lean ====
/-
  The idealized program is the program printed again under another name: the same operations, none rewritten. So what is
  proved of the one, at every reading of the floats, is proved of the other.
-/
module

public import proofs.«01_k».proof.Defs
public import proofs.«01_k».proof.Proof.Gen.KernelIdeal
public import proofs.«01_k».proof.Proof.KernelValue

@[expose] public section

noncomputable section

namespace Cert.Proof

open Idealize.ShloMosaic Idealize.ShloMosaic.TcCoe Idealize.SL.Sem

/-- Every run of the program over the reals: the result is the product of the activations with the weights. -/
theorem run_kernel (m : (ℓ : Loc Cert.Kernel.nD Cert.Kernel.τ Cert.Kernel.sig) → Buf (Elt Ideal) ℓ) (ρ : Dev Cert.Kernel.nD → PrngReg) :
    θ_run (Cert.Kernel.defs (F := Ideal)) (onTc (τ := Cert.Kernel.τ) (Cert.Kernel.main (F := Ideal))) ⟨m, fun _ => 0, ρ⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_v1)
        = Cert.Kernel.Hand.product (m ((c.tc : Thread Cert.Kernel.nD Cert.Kernel.τ).loc Cert.Kernel.main_arg0))
            (Cert.Kernel.Hand.weights (m ((c.tc : Thread Cert.Kernel.nD Cert.Kernel.τ).loc Cert.Kernel.main_arg1))
              (m ((c.tc : Thread Cert.Kernel.nD Cert.Kernel.τ).loc Cert.Kernel.main_arg2))))
      ∧ r.2.sem = fun _ => 0) := by
  refine (θ_run Cert.Kernel.defs _ _).mono (fun r h => ⟨fun c => ⟨(h.1 c).1, (h.1 c).2.1, (h.1 c).2.2.1, (h.1 c).2.2.2.trans ?_⟩, h.2⟩)
    (Cert.Kernel.Hand.run m ρ)
  have e2 := Cert.Kernel.Hand.W2_arr m ρ c 2
  have e1 := Cert.Kernel.Hand.W1_arr m ρ c 2
  rw [Cert.Kernel.Hand.final1] at e2
  rw [Cert.Kernel.Hand.final0] at e1
  refine e2.trans ?_
  refine congrArg₂ Cert.Kernel.Hand.product ?_ e1
  exact Cert.Kernel.Hand.W1_args m ρ c Cert.Kernel.main_arg0 (by decide)

/-- Its statement of the idealized program is its statement of the program, by definition. -/
theorem run_same :
    (∀ (m : (ℓ : Loc Cert.KernelIdeal.nD Cert.KernelIdeal.τ Cert.KernelIdeal.sig) → Buf (Elt Ideal) ℓ) (ρ : Dev Cert.KernelIdeal.nD → PrngReg),
      θ_run (Cert.KernelIdeal.defs (F := Ideal)) (onTc (τ := Cert.KernelIdeal.τ) (Cert.KernelIdeal.main (F := Ideal))) ⟨m, fun _ => 0, ρ⟩ (fun r => (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_v1)
          = Cert.Kernel.Hand.product (m ((c.tc : Thread Cert.KernelIdeal.nD Cert.KernelIdeal.τ).loc Cert.KernelIdeal.main_arg0))
              (Cert.Kernel.Hand.weights (m ((c.tc : Thread Cert.KernelIdeal.nD Cert.KernelIdeal.τ).loc Cert.KernelIdeal.main_arg1))
                (m ((c.tc : Thread Cert.KernelIdeal.nD Cert.KernelIdeal.τ).loc Cert.KernelIdeal.main_arg2))))
        ∧ r.2.sem = fun _ => 0))
    = (∀ (m : (ℓ : Loc Cert.Kernel.nD Cert.Kernel.τ Cert.Kernel.sig) → Buf (Elt Ideal) ℓ) (ρ : Dev Cert.Kernel.nD → PrngReg),
      θ_run (Cert.Kernel.defs (F := Ideal)) (onTc (τ := Cert.Kernel.τ) (Cert.Kernel.main (F := Ideal))) ⟨m, fun _ => 0, ρ⟩ (fun r => (∀ c : Dev Cert.Kernel.nD,
        r.2.mem ((c.tc : Thread Cert.Kernel.nD Cert.Kernel.τ).loc Cert.Kernel.main_arg0) = m ((c.tc : Thread Cert.Kernel.nD Cert.Kernel.τ).loc Cert.Kernel.main_arg0)
        ∧ r.2.mem ((c.tc : Thread Cert.Kernel.nD Cert.Kernel.τ).loc Cert.Kernel.main_arg1) = m ((c.tc : Thread Cert.Kernel.nD Cert.Kernel.τ).loc Cert.Kernel.main_arg1)
        ∧ r.2.mem ((c.tc : Thread Cert.Kernel.nD Cert.Kernel.τ).loc Cert.Kernel.main_arg2) = m ((c.tc : Thread Cert.Kernel.nD Cert.Kernel.τ).loc Cert.Kernel.main_arg2)
        ∧ r.2.mem ((c.tc : Thread Cert.Kernel.nD Cert.Kernel.τ).loc Cert.Kernel.main_v1)
          = Cert.Kernel.Hand.product (m ((c.tc : Thread Cert.Kernel.nD Cert.Kernel.τ).loc Cert.Kernel.main_arg0))
              (Cert.Kernel.Hand.weights (m ((c.tc : Thread Cert.Kernel.nD Cert.Kernel.τ).loc Cert.Kernel.main_arg1))
                (m ((c.tc : Thread Cert.Kernel.nD Cert.Kernel.τ).loc Cert.Kernel.main_arg2))))
        ∧ r.2.sem = fun _ => 0)) := by
  sl_kernel_rfl

end Cert.Proof

end
-- ==== Proof.RefValue.lean ====
/-
  The reference over the reals: its result array is the product of the activations with the weights, each weight its
  code times two to its block's byte less 127.
-/
module

public import proofs.«01_k».proof.Proof.Gen.ReferenceIdeal.Frame
public import Idealize.ShloMosaic.Lib.Pipeline.ValueKit.Geometry
public import Idealize.ShloMosaic.Lib.Pointwise

@[expose] public section

set_option maxRecDepth 16384

noncomputable section

namespace Cert.ReferenceIdeal.RefValue

open Idealize.ShloMosaic Idealize.ShloMosaic.TcCoe Idealize.ShloMosaic.Pointwise Idealize.SL.Sem
open Cert.ReferenceIdeal Cert.ReferenceIdeal.Gen

variable (m : (ℓ : Loc nD τ sig) → Buf (Elt Ideal) ℓ) (ρ : Dev nD → PrngReg)

/-- The result as a function of the three arguments. -/
def result (x : Vec Ideal S16384x2560 .bf16) (codes : Vec Ideal S10240x2560 .fp8e4m3) (bytes : Vec Ideal S10240x80 .i8) :
    Vec Ideal S16384x10240 .bf16 :=
  fun i => (∑ k : Fin 2560, (x (ix2 (i 0) k) : EReal) * ((codes (ix2 (i 1) k) : EReal)
    * Ideal.exp2 (((BitVec.setWidth 32 (bytes (ix2 (i 1) ⟨k.val / 32, by omega⟩) : BitVec 8) - 127#32).toInt : ℝ) : EReal)) : EReal)

theorem pay_eq (x : Vec Ideal S16384x2560 .bf16) (codes : Vec Ideal S10240x2560 .fp8e4m3) (bytes : Vec Ideal S10240x80 .i8) :
    k0_pay1 codes bytes x = result x codes bytes := by
  funext i
  pointwise [k0_pay1, result]
  rfl

theorem hz : (![0, 0] : Fin 2 → Nat) = fun _ => 0 := funext fun a => by fin_cases a <;> rfl

theorem index_0 : ∀ t : Fin cfg0.N, win0_0.index t = ![0, 0] := (by decide +kernel : ∀ t : Fin grid0.N, _)
theorem index_1 : ∀ t : Fin cfg0.N, win0_1.index t = ![0, 0] := (by decide +kernel : ∀ t : Fin grid0.N, _)
theorem index_2 : ∀ t : Fin cfg0.N, win0_2.index t = ![0, 0] := (by decide +kernel : ∀ t : Fin grid0.N, _)
theorem index_3 : ∀ t : Fin cfg0.N, win0_3.index t = ![0, 0] := (by decide +kernel : ∀ t : Fin grid0.N, _)

theorem iblk_0 (c : Dev nD) (t : Fin cfg0.N) : iblk m c 0 t = m ((c : Thread nD τ).loc main_arg0) := by
  funext y
  blk_simp [iblk]
  exact congrArg (m ((c : Thread nD τ).loc main_arg0)) (by blk_ext [index_0])
theorem iblk_1 (c : Dev nD) (t : Fin cfg0.N) : iblk m c 1 t = m ((c : Thread nD τ).loc main_arg1) := by
  funext y
  blk_simp [iblk]
  exact congrArg (m ((c : Thread nD τ).loc main_arg1)) (by blk_ext [index_1])
theorem iblk_2 (c : Dev nD) (t : Fin cfg0.N) : iblk m c 2 t = m ((c : Thread nD τ).loc main_arg2) := by
  funext y
  blk_simp [iblk]
  exact congrArg (m ((c : Thread nD τ).loc main_arg2)) (by blk_ext [index_2])

theorem final (c : Dev nD) : (dats m 0 c).arrAt 3 cfg0.N
    = result (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  unfold out0_3
  rw [View.canon_unit_zero hz, View.ld_unit_zero hz, View.ld_unit_zero hz, View.ld_unit_zero hz, pay_eq, iblk_0, iblk_1, iblk_2]
  refine congrArg _ ?_
  blk_ext [index_3]

/-- The run: the result array at that function, the arguments unchanged. -/
theorem run : θ_run defs (onTc (τ := τ) (main (F := Ideal))) ⟨m, fun _ => 0, ρ⟩ fun r => ∀ c : Dev nD,
      r.2.mem ((c.tc : Thread nD τ).loc main_v0)
        = result (m ((c : Thread nD τ).loc main_arg0)) (m ((c : Thread nD τ).loc main_arg1)) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨((h c).1 3).trans (final m c),
      ((h c).1 0).trans ((dats m 0 c).arrAt_in 0 rfl _), ((h c).1 1).trans ((dats m 0 c).arrAt_in 1 rfl _),
      ((h c).1 2).trans ((dats m 0 c).arrAt_in 2 rfl _)⟩)
    (run_main m ρ)

end Cert.ReferenceIdeal.RefValue

end
-- ==== Proof.Scale.lean ====
/-
  The scale of a block over the reals: a byte from 1 to 254 put in the exponent field of a binary32 word is two to the
  byte less 127.
-/
module

public import Idealize.ShloMosaic.PureOps.Ideal
public import Idealize.ShloMosaic.PureOps.Ideal.Laws

@[expose] public section

namespace Cert.Scale

open Idealize.ShloMosaic

/-- The three fields of the word, and the byte less its bias. -/
theorem fields : ∀ n : Fin 256,
    ((BitVec.setWidth 32 (BitVec.ofNat 8 n.val)) <<< 23).extractLsb' 31 1 = 0#1
    ∧ (((BitVec.setWidth 32 (BitVec.ofNat 8 n.val)) <<< 23).extractLsb' 23 8).toNat = n.val
    ∧ (((BitVec.setWidth 32 (BitVec.ofNat 8 n.val)) <<< 23).extractLsb' 0 23).toNat = 0
    ∧ (BitVec.setWidth 32 (BitVec.ofNat 8 n.val) - 127#32).toInt = (n.val : Int) - 127 := by
  decide +kernel

theorem scale_eq (b : BitVec 8) (h1 : 1 ≤ b.toNat) (h2 : b.toNat ≤ 254) :
    Ideal.ofBits .f32 ((BitVec.setWidth 32 b) <<< 23) = Ideal.exp2 (((BitVec.setWidth 32 b - 127#32).toInt : ℝ) : EReal) := by
  obtain ⟨f1, f2, f3, f4⟩ := fields ⟨b.toNat, b.isLt⟩
  simp only [BitVec.ofNat_toNat, BitVec.setWidth_eq] at f1 f2 f3 f4
  rw [f4, Ideal.exp2_coe]
  show Ideal.ieee 8 23 ((BitVec.setWidth 32 b) <<< 23) = _
  unfold Ideal.ieee
  simp only [f1, f2, f3]
  have hn : b.toNat ≠ 2 ^ 8 - 1 := by norm_num; omega
  have hz : b.toNat ≠ 0 := by omega
  simp only [if_neg hn, if_neg hz]
  refine congrArg (fun r : ℝ => (r : EReal)) ?_
  show _ = (2 : ℝ) ^ (((b.toNat : Int) - 127 : Int) : ℝ)
  rw [Real.rpow_intCast]
  generalize (b.toNat : Int) = z
  have e : z - 127 = 23 + (z - (2 ^ (8 - 1) - 1) - 23) := by norm_num
  rw [e, zpow_add₀ (by norm_num : (2 : ℝ) ≠ 0)]
  norm_num

end Cert.Scale
-- ==== Proof.QuantOps.lean ====
/-
  One row group of the quantising call, 32 rows at a time, as functions of its 20 rotated chunks of 128 lanes: the block
  scale, the codes, the scaled codes and the packed mask, operation by operation as the body computes them.
-/
module

public import proofs.«01_k».proof.Proof.Gen.Quant.Skeleton

@[expose] public section

noncomputable section

namespace Cert.Quant.XTile

open Idealize.ShloMosaic Cert.Quant Cert.Quant.Gen

variable {F : FTy → Type} [FloatOps F]

/-- One step of a merge tree over `n` parts: lanes with bit `s` set keep a high part, the others a low one, and each
    kept part is combined with the part's neighbour `s` lanes away. -/
def stage {V : Type} (comb : V → V → V) (rot : BitVec 32 → V → V) (sel : BitVec 32 → V → V → V) (n s : Nat) (p : Nat → V) (i : Nat) : V :=
  if i + s < n then
    sel (BitVec.ofNat 32 s) (comb (p (i + s)) (rot (BitVec.ofNat 32 s) (p (i + s)))) (comb (p i) (rot (BitVec.ofNat 32 (128 - s)) (p i)))
  else comb (p i) (rot (BitVec.ofNat 32 (128 - s)) (p i))

/-- The lane's number. -/
def lane : IVec S32x128 32 := iota .tc S32x128 32 [1] iota_S32x128_d1_w32
def lane8 : IVec S8x128 32 := iota .tc S8x128 32 [1] iota_S8x128_d1_w32

/-- A chunk times the rotation's norm. -/
def scaled (x : FVec F S32x128 .f32) : FVec F S32x128 .f32 := mulf x (broadcast S32x128 (Scalar.ofBits .f32 0x3E3504F3#32))

abbrev stageF := stage (V := FVec F S32x128 .f32) addf (fun s x => dynamicRotate 1 s none x rotates_S32x128_d1)
  (fun s a b => select (cmpi .ne (andi lane (broadcast S32x128 s)) (broadcast S32x128 0#32)) a b)
abbrev stageI := stage (V := IVec S8x128 32) ori (fun s x => dynamicRotate 1 s none x rotates_S8x128_d1)
  (fun s a b => select (cmpi .ne (andi lane8 (broadcast S8x128 s)) (broadcast S8x128 0#32)) a b)

/-- The sums of squares of the blocks, one per lane. -/
def sumSq (raw : Nat → FVec F S32x128 .f32) : FVec F S32x128 .f32 :=
  stageF 2 1 (stageF 4 2 (stageF 8 4 (stageF 16 8 (stageF 20 16 fun c => mulf (scaled (raw c)) (scaled (raw c)))))) 0

def rmsOf (ss : FVec F S32x128 .f32) : FVec F S32x128 .f32 := sqrt (mulf ss (broadcast S32x128 (Scalar.ofBits .f32 0x3D000000#32)))

def aOf (rms : FVec F S32x128 .f32) : FVec F S32x128 .f32 :=
  mulf (mulf (broadcast S32x128 (Scalar.ofBits .f32 0x403AE148#32)) rms) (broadcast S32x128 (Scalar.ofBits .f32 0x3E2AAAAB#32))

/-- One step of the search for the exponent field. -/
def step (s : BitVec 32) (a : FVec F S32x128 .f32) (code : IVec S32x128 32) : IVec S32x128 32 :=
  select (cmpf .oge a (bitcastToFloat .f32 (shli (addi code (broadcast S32x128 s)) (broadcast S32x128 23#32)))) (addi code (broadcast S32x128 s)) code

def search (a : FVec F S32x128 .f32) : IVec S32x128 32 :=
  step 1#32 a (step 2#32 a (step 4#32 a (step 8#32 a (step 16#32 a (step 32#32 a (step 64#32 a (step 128#32 a (broadcast S32x128 0#32))))))))

/-- The exponent of each block's scale. -/
def expo (ss : FVec F S32x128 .f32) : IVec S32x128 32 :=
  select (cmpf .oeq (rmsOf ss) (broadcast S32x128 (Scalar.ofBits .f32 0x00000000#32))) (broadcast S32x128 0#32)
    (subi (search (aOf (rmsOf ss))) (broadcast S32x128 127#32))

def down (e : IVec S32x128 32) : IVec S32x128 32 := shli (subi (broadcast S32x128 127#32) e) (broadcast S32x128 23#32)

/-- A lane index read modulo 128. -/
def wrap (w : IVec S32x128 32) : IVec S32x128 32 := select (cmpi .slt w (broadcast S32x128 0#32)) (addi w (broadcast S32x128 128#32)) w
def wrap8 (w : IVec S8x128 32) : IVec S8x128 32 := select (cmpi .slt w (broadcast S8x128 0#32)) (addi w (broadcast S8x128 128#32)) w

def take (x w : IVec S32x128 32) : IVec S32x128 32 :=
  dynamicGather 1 x (shapeCast S32x128 (shapeCast S32x128x1 (wrap w) shapeCasts_S32x128_S32x128x1) shapeCasts_S32x128x1_S32x128)
def take8 (x w : IVec S8x128 32) : IVec S8x128 32 :=
  dynamicGather 1 x (shapeCast S8x128 (shapeCast S8x128x1 (wrap8 w) shapeCasts_S8x128_S8x128x1) shapeCasts_S8x128x1_S8x128)

/-- The lane a block's scale lies in, by block: (block mod 4)·32 + block div 4. -/
def toBlock : IVec S32x128 32 :=
  let m : BitVec 32 := Scalar.select (Scalar.cmpi .eq 4#32 0#32) 1#32 4#32
  let rem := remsi lane (broadcast S32x128 m)
  let md := select
    (andi (xori (cmpi .slt rem (broadcast S32x128 0#32)) (broadcastTo S32x128 (broadcast S32x128 (Scalar.cmpi .slt m 0#32)) broadcasts_S32x128_S32x128))
      (cmpi .ne rem (broadcast S32x128 0#32)))
    (addi rem (broadcast S32x128 m)) rem
  let q := divsi lane (broadcast S32x128 4#32)
  let d := select
    (andi
      (cmpi .ne
        (subi (extui 32 (cmpi .sgt lane (broadcast S32x128 0#32)) natLt_1_32) (extui 32 (cmpi .slt lane (broadcast S32x128 0#32)) natLt_1_32))
        (broadcast S32x128 (Scalar.subi (Scalar.extui (Scalar.cmpi .sgt 4#32 0#32)) (Scalar.extui (Scalar.cmpi .slt 4#32 0#32)))))
      (cmpi .ne (remsi lane (broadcast S32x128 4#32)) (broadcast S32x128 0#32)))
    (subi q (broadcast S32x128 1#32)) q
  addi (muli md (broadcast S32x128 32#32)) d

/-- The lane a mask byte lies in, by byte: (byte mod 16)·8 + byte div 16. -/
def toByte : IVec S8x128 32 :=
  let m : BitVec 32 := Scalar.select (Scalar.cmpi .eq 16#32 0#32) 1#32 16#32
  let rem := remsi lane8 (broadcast S8x128 m)
  let md := select
    (andi (xori (cmpi .slt rem (broadcast S8x128 0#32)) (broadcastTo S8x128 (broadcast S8x128 (Scalar.cmpi .slt m 0#32)) broadcasts_S8x128_S8x128))
      (cmpi .ne rem (broadcast S8x128 0#32)))
    (addi rem (broadcast S8x128 m)) rem
  let q := divsi lane8 (broadcast S8x128 16#32)
  let d := select
    (andi
      (cmpi .ne
        (subi (extui 32 (cmpi .sgt lane8 (broadcast S8x128 0#32)) natLt_1_32) (extui 32 (cmpi .slt lane8 (broadcast S8x128 0#32)) natLt_1_32))
        (broadcast S8x128 (Scalar.subi (Scalar.extui (Scalar.cmpi .sgt 16#32 0#32)) (Scalar.extui (Scalar.cmpi .slt 16#32 0#32)))))
      (cmpi .ne (remsi lane8 (broadcast S8x128 16#32)) (broadcast S8x128 0#32)))
    (subi q (broadcast S8x128 1#32)) q
  addi (muli md (broadcast S8x128 8#32)) d

/-- The scale words of a row group, block by block. -/
def scaleWord (e : IVec S32x128 32) : IVec S32x128 32 := take (addi e (broadcast S32x128 127#32)) toBlock

/-- Chunk `c`'s down-scale words, every lane its own block's. -/
def downC (dn : IVec S32x128 32) (c : Nat) : IVec S32x128 32 :=
  take dn (addi (andi lane (broadcast S32x128 4294967264#32)) (broadcast S32x128 (BitVec.ofNat 32 c)))

/-- A chunk over its block's scale. -/
def valC (dn : IVec S32x128 32) (c : Nat) (x : FVec F S32x128 .f32) : FVec F S32x128 .f32 := mulf (scaled x) (bitcastToFloat .f32 (downC dn c))

def insideC (v : FVec F S32x128 .f32) : IVec S32x128 1 := cmpf .ole (absf v) (broadcast S32x128 (Scalar.ofBits .f32 0x40C00000#32))

/-- The value rounded to the nearest of the format's. -/
def quantC (v : FVec F S32x128 .f32) : FVec F S32x128 .f32 :=
  let cl := minimumf (broadcast S32x128 (Scalar.ofBits .f32 0x40C00000#32)) (maximumf (broadcast S32x128 (Scalar.ofBits .f32 0xC0C00000#32)) v)
  let am := absf cl
  let power := select (cmpf .olt am (broadcast S32x128 (Scalar.ofBits .f32 0x40000000#32))) (broadcast S32x128 (Scalar.ofBits .f32 0x3F800000#32))
    (select (cmpf .olt am (broadcast S32x128 (Scalar.ofBits .f32 0x40800000#32))) (broadcast S32x128 (Scalar.ofBits .f32 0x40000000#32))
      (broadcast S32x128 (Scalar.ofBits .f32 0x40800000#32)))
  let q := mulf (roundeven (mulf cl (divf (broadcast S32x128 (Scalar.ofBits .f32 0x40000000#32)) power)))
    (mulf (broadcast S32x128 (Scalar.ofBits .f32 0x3F000000#32)) power)
  select (cmpf .olt v (broadcast S32x128 (Scalar.ofBits .f32 0x00000000#32))) (subf (broadcast S32x128 (Scalar.ofBits .f32 0x00000000#32)) (absf q)) q

def codeC (v : FVec F S32x128 .f32) : FVec F S32x128 .fp8e4m3 := truncf .fp8e4m3 (quantC v) bitsLt_fp8e4m3_f32

def xqC (dn : IVec S32x128 32) (c : Nat) (x : FVec F S32x128 .f32) : FVec F S32x128 .bf16 :=
  truncf .bf16 (mulf (quantC (valC dn c x)) (bitcastToFloat .f32 (subi (broadcast S32x128 2130706432#32) (downC dn c)))) bitsLt_bf16_f32

/-- The bit a row group of eight sets in its word. -/
def weight (v : BitVec 32) : IVec S8x128 32 := shli (broadcast S8x128 1#32) (addi (andi lane8 (broadcast S8x128 7#32)) (broadcast S8x128 v))

/-- Four rows' flags in one word. -/
def wordC (m : IVec S32x128 1) : IVec S8x128 32 :=
  ori (ori (ori (ori (broadcast S8x128 0#32)
    (select (extractStridedSlice S8x128 ![0, 0] m slices_S32x128_o0_0_S8x128) (weight 0#32) (broadcast S8x128 0#32)))
    (select (extractStridedSlice S8x128 ![8, 0] m slices_S32x128_o8_0_S8x128) (weight 8#32) (broadcast S8x128 0#32)))
    (select (extractStridedSlice S8x128 ![16, 0] m slices_S32x128_o16_0_S8x128) (weight 16#32) (broadcast S8x128 0#32)))
    (select (extractStridedSlice S8x128 ![24, 0] m slices_S32x128_o24_0_S8x128) (weight 24#32) (broadcast S8x128 0#32))

/-- One byte of every word. -/
def byteOf (z : IVec S8x128 32) (v : BitVec 32) : IVec S8x128 32 := andi (shrsi z (broadcast S8x128 v)) (broadcast S8x128 255#32)

/-- The words' bytes as rows again. -/
def maskRows (z : IVec S8x128 32) : IVec S32x128 32 :=
  concatenate S32x128 0 [⟨S8x128, byteOf z 0#32⟩, ⟨S8x128, byteOf z 8#32⟩, ⟨S8x128, byteOf z 16#32⟩, ⟨S8x128, byteOf z 24#32⟩]
    concatenates_S8x128_S8x128_S8x128_S8x128_S32x128_d0

/-- The merged words of `n` chunks, four or eight. -/
def merged8 (w : Nat → IVec S8x128 32) : IVec S8x128 32 := stageI 2 1 (stageI 4 2 (stageI 8 4 w)) 0
def merged4 (w : Nat → IVec S8x128 32) : IVec S8x128 32 := stageI 2 1 (stageI 4 2 (stageI 4 4 w)) 0

/-- A row group's mask bytes, from its chunks' words. -/
def maskBytes (w : Nat → IVec S8x128 32) : IVec S32x320 8 :=
  trunci 8 (extractStridedSlice S32x320 ![0, 0]
    (concatenate S32x384 1 [⟨S32x128, maskRows (take8 (merged8 w) toByte)⟩, ⟨S32x128, maskRows (take8 (merged8 fun i => w (8 + i)) toByte)⟩,
      ⟨S32x128, maskRows (take8 (merged4 fun i => w (16 + i)) toByte)⟩] concatenates_S32x128_S32x128_S32x128_S32x384_d1)
    slices_S32x384_o0_0_S32x320) natLt_8_32

def scaleBytes (e : IVec S32x128 32) : IVec S32x80 8 :=
  trunci 8 (extractStridedSlice S32x80 ![0, 0] (scaleWord e) slices_S32x128_o0_0_S32x80) natLt_8_32

/-! ### A row group's four results -/

def grpDown (raw : Nat → FVec F S32x128 .f32) : IVec S32x128 32 := down (expo (sumSq raw))
def grpCode (raw : Nat → FVec F S32x128 .f32) (c : Nat) : FVec F S32x128 .fp8e4m3 := codeC (valC (grpDown raw) c (raw c))
def grpXq (raw : Nat → FVec F S32x128 .f32) (c : Nat) : FVec F S32x128 .bf16 := xqC (grpDown raw) c (raw c)
def grpMask (raw : Nat → FVec F S32x128 .f32) : IVec S32x320 8 := maskBytes fun c => wordC (insideC (valC (grpDown raw) c (raw c)))
def grpScale (raw : Nat → FVec F S32x128 .f32) : IVec S32x80 8 := scaleBytes (expo (sumSq raw))

end Cert.Quant.XTile

end
-- ==== Proof.QuantTile.lean ====
/-
  The quantising call's tile: what its body leaves in the four output buffers, the pieces it stores one per row group and
  chunk, as functions of the two input blocks.
-/
module

public import proofs.«01_k».proof.Proof.QuantOps
public import Idealize.ShloMosaic.Lib.Pipeline.FrameBody
public import Idealize.ShloMosaic.Lib.Pipeline.Value
public import Idealize.ShloMosaic.Lib.PointwiseCore
public import Idealize.ShloMosaic.Lib.Tactic

@[expose] public section

set_option maxRecDepth 16384

noncomputable section

namespace Cert.Quant.XTile

open Idealize.ShloMosaic Cert.Quant Cert.Quant.Gen

variable {F : FTy → Type} [FloatOps F]

/-! ### The rotated tile -/

theorem inbR (k : Fin 10) : ∀ a, (![0, 256 * k.val] : Fin 2 → Nat) a + S256x256.size a ≤ S256x2560.size a := by
  intro a
  have h := k.isLt
  match a with
  | ⟨0, _⟩ => show 0 + 256 ≤ 256; omega
  | ⟨1, _⟩ => show 256 * k.val + 256 ≤ 2560; omega

abbrev rectR (k : Fin 10) : Rect S256x2560 := Rect.unit (s := S256x2560) ![0, 256 * k.val] S256x256.size (inbR k)

/-- The rotation of 256 columns. -/
def rotC (x : FVec F S256x256 .bf16) (h : FVec F S256x256 .bf16) : FVec F S256x256 .f32 :=
  shapeCast S256x256 (matmul dot_S256x256_S256x256_S256x256_1_0_0_1_n_n none (shapeCast S256x256 x shapeCasts_S256x256_S256x256) h
    (constant S256x256 .f32 0x00000000#32)) shapeCasts_S256x256_S256x256

def rotPiece (x0 : Vec F S256x2560 .bf16) (x1 : Vec F S256x256 .bf16) (k : Fin 10) : View.Piece (Elt F) S256x2560 .f32 :=
  ⟨rectR k, rotC (View.ld x0 (rectR k)) (View.ld x1 (Rect.unit (s := S256x256) ![0, 0] S256x256.size inb_S256x256_S256x256_0_0))⟩

/-- The rotation's stores, last first. -/
def rotL (x0 : Vec F S256x2560 .bf16) (x1 : Vec F S256x256 .bf16) : List (View.Piece (Elt F) S256x2560 .f32) :=
  List.ofFn fun k : Fin 10 => rotPiece x0 x1 ⟨9 - k.val, by omega⟩

theorem rot_mem (x0 : Vec F S256x2560 .bf16) (x1 : Vec F S256x256 .bf16) (k : Fin 10) : rotPiece x0 x1 k ∈ rotL x0 x1 := by
  unfold rotL
  rw [List.mem_ofFn]
  exact ⟨⟨9 - k.val, by omega⟩, congrArg (rotPiece x0 x1) (Fin.ext (by show 9 - (9 - k.val) = k.val; omega))⟩

theorem rot_cover (x0 : Vec F S256x2560 .bf16) (x1 : Vec F S256x256 .bf16) (y : S256x2560.Idx) : ∃ p ∈ rotL x0 x1, y ∈ p.1.set := by
  have h0 : (y 0).val < 256 := (y 0).isLt
  have h1 : (y 1).val < 2560 := (y 1).isLt
  refine ⟨rotPiece x0 x1 ⟨(y 1).val / 256, by omega⟩, rot_mem x0 x1 _, ?_⟩
  refine (Rect.mem_set_unit (inb := inbR _)).mpr fun a => ?_
  match a with
  | ⟨0, _⟩ => show 0 ≤ (y 0).val ∧ (y 0).val < 0 + 256; omega
  | ⟨1, _⟩ => show 256 * ((y 1).val / 256) ≤ (y 1).val ∧ (y 1).val < 256 * ((y 1).val / 256) + 256; omega

/-- The rotated tile. -/
def rot (x0 : Vec F S256x2560 .bf16) (x1 : Vec F S256x256 .bf16) : Vec F S256x2560 .f32 := View.canon (rotL x0 x1)

/-! ### The stores -/

theorem inbW (g : Fin 8) (c : Fin 20) : ∀ a, (![32 * g.val, 128 * c.val] : Fin 2 → Nat) a + S32x128.size a ≤ S256x2560.size a := by
  intro a
  have h := g.isLt
  have h' := c.isLt
  match a with
  | ⟨0, _⟩ => show 32 * g.val + 32 ≤ 256; omega
  | ⟨1, _⟩ => show 128 * c.val + 128 ≤ 2560; omega

theorem inbS (g : Fin 8) : ∀ a, (![32 * g.val, 0] : Fin 2 → Nat) a + S32x80.size a ≤ S256x80.size a := by
  intro a
  have h := g.isLt
  match a with
  | ⟨0, _⟩ => show 32 * g.val + 32 ≤ 256; omega
  | ⟨1, _⟩ => show 0 + 80 ≤ 80; omega

theorem inbK (g : Fin 8) : ∀ a, (![32 * g.val, 0] : Fin 2 → Nat) a + S32x320.size a ≤ S256x320.size a := by
  intro a
  have h := g.isLt
  match a with
  | ⟨0, _⟩ => show 32 * g.val + 32 ≤ 256; omega
  | ⟨1, _⟩ => show 0 + 320 ≤ 320; omega

abbrev rectW (g : Fin 8) (c : Fin 20) : Rect S256x2560 := Rect.unit (s := S256x2560) ![32 * g.val, 128 * c.val] S32x128.size (inbW g c)
abbrev rectS (g : Fin 8) : Rect S256x80 := Rect.unit (s := S256x80) ![32 * g.val, 0] S32x80.size (inbS g)
abbrev rectK (g : Fin 8) : Rect S256x320 := Rect.unit (s := S256x320) ![32 * g.val, 0] S32x320.size (inbK g)

/-- A row group's chunks out of the rotated tile. -/
def rawOf (v : Fin 8 → Fin 20 → FVec F S32x128 .f32) (g : Fin 8) (c : Nat) : FVec F S32x128 .f32 :=
  v g ⟨c % 20, Nat.mod_lt c (by decide)⟩

/-- The store of row group `g`, chunk `c`, and of row group `g` alone. -/
def pieceX (v : Fin 8 → Fin 20 → FVec F S32x128 .f32) (g : Fin 8) (c : Fin 20) : View.Piece (Elt F) S256x2560 .bf16 := ⟨rectW g c, grpXq (rawOf v g) c.val⟩
def pieceC (v : Fin 8 → Fin 20 → FVec F S32x128 .f32) (g : Fin 8) (c : Fin 20) : View.Piece (Elt F) S256x2560 .fp8e4m3 := ⟨rectW g c, grpCode (rawOf v g) c.val⟩
def pieceS (v : Fin 8 → Fin 20 → FVec F S32x128 .f32) (g : Fin 8) : View.Piece (Elt F) S256x80 .i8 := ⟨rectS g, grpScale (rawOf v g)⟩
def pieceK (v : Fin 8 → Fin 20 → FVec F S32x128 .f32) (g : Fin 8) : View.Piece (Elt F) S256x320 .i8 := ⟨rectK g, grpMask (rawOf v g)⟩

/-- A family of pieces by row group and chunk, last first, and one by row group. -/
def byChunk {α : Type} (f : Fin 8 → Fin 20 → α) : List α :=
  List.ofFn fun k : Fin 160 => f ⟨(159 - k.val) / 20, by omega⟩ ⟨(159 - k.val) % 20, by omega⟩
def byGroup {α : Type} (f : Fin 8 → α) : List α := List.ofFn fun k : Fin 8 => f ⟨7 - k.val, by omega⟩

theorem mem_byChunk {α : Type} (f : Fin 8 → Fin 20 → α) (g : Fin 8) (c : Fin 20) : f g c ∈ byChunk f := by
  unfold byChunk
  rw [List.mem_ofFn]
  have hg := g.isLt
  have hc := c.isLt
  exact ⟨⟨159 - (20 * g.val + c.val), by omega⟩, congrArg₂ f
    (Fin.ext (by show (159 - (159 - (20 * g.val + c.val))) / 20 = g.val; omega))
    (Fin.ext (by show (159 - (159 - (20 * g.val + c.val))) % 20 = c.val; omega))⟩

theorem mem_byGroup {α : Type} (f : Fin 8 → α) (g : Fin 8) : f g ∈ byGroup f := by
  unfold byGroup
  rw [List.mem_ofFn]
  have hg := g.isLt
  exact ⟨⟨7 - g.val, by omega⟩, congrArg f (Fin.ext (by show 7 - (7 - g.val) = g.val; omega))⟩

theorem of_mem_byChunk {α : Type} {f : Fin 8 → Fin 20 → α} {p : α} (h : p ∈ byChunk f) : ∃ g c, p = f g c := by
  unfold byChunk at h
  rw [List.mem_ofFn] at h
  obtain ⟨k, rfl⟩ := h
  exact ⟨_, _, rfl⟩

theorem of_mem_byGroup {α : Type} {f : Fin 8 → α} {p : α} (h : p ∈ byGroup f) : ∃ g, p = f g := by
  unfold byGroup at h
  rw [List.mem_ofFn] at h
  obtain ⟨k, rfl⟩ := h
  exact ⟨_, rfl⟩

def piecesX (v : Fin 8 → Fin 20 → FVec F S32x128 .f32) : List (View.Piece (Elt F) S256x2560 .bf16) := byChunk (pieceX v)
def piecesC (v : Fin 8 → Fin 20 → FVec F S32x128 .f32) : List (View.Piece (Elt F) S256x2560 .fp8e4m3) := byChunk (pieceC v)
def piecesS (v : Fin 8 → Fin 20 → FVec F S32x128 .f32) : List (View.Piece (Elt F) S256x80 .i8) := byGroup (pieceS v)
def piecesK (v : Fin 8 → Fin 20 → FVec F S32x128 .f32) : List (View.Piece (Elt F) S256x320 .i8) := byGroup (pieceK v)

/-- Position (r, l) lies in row group r / 32, chunk l / 128. -/
theorem in_rectW (y : S256x2560.Idx) : ∃ (g : Fin 8) (c : Fin 20), y ∈ (rectW g c).set := by
  have h0 : (y 0).val < 256 := (y 0).isLt
  have h1 : (y 1).val < 2560 := (y 1).isLt
  refine ⟨⟨(y 0).val / 32, by omega⟩, ⟨(y 1).val / 128, by omega⟩, (Rect.mem_set_unit (inb := inbW _ _)).mpr fun a => ?_⟩
  match a with
  | ⟨0, _⟩ => show 32 * ((y 0).val / 32) ≤ (y 0).val ∧ (y 0).val < 32 * ((y 0).val / 32) + 32; omega
  | ⟨1, _⟩ => show 128 * ((y 1).val / 128) ≤ (y 1).val ∧ (y 1).val < 128 * ((y 1).val / 128) + 128; omega

theorem in_rectS (y : S256x80.Idx) : ∃ g : Fin 8, y ∈ (rectS g).set := by
  have h0 : (y 0).val < 256 := (y 0).isLt
  have h1 : (y 1).val < 80 := (y 1).isLt
  refine ⟨⟨(y 0).val / 32, by omega⟩, (Rect.mem_set_unit (inb := inbS _)).mpr fun a => ?_⟩
  match a with
  | ⟨0, _⟩ => show 32 * ((y 0).val / 32) ≤ (y 0).val ∧ (y 0).val < 32 * ((y 0).val / 32) + 32; omega
  | ⟨1, _⟩ => show 0 ≤ (y 1).val ∧ (y 1).val < 0 + 80; omega

theorem in_rectK (y : S256x320.Idx) : ∃ g : Fin 8, y ∈ (rectK g).set := by
  have h0 : (y 0).val < 256 := (y 0).isLt
  have h1 : (y 1).val < 320 := (y 1).isLt
  refine ⟨⟨(y 0).val / 32, by omega⟩, (Rect.mem_set_unit (inb := inbK _)).mpr fun a => ?_⟩
  match a with
  | ⟨0, _⟩ => show 32 * ((y 0).val / 32) ≤ (y 0).val ∧ (y 0).val < 32 * ((y 0).val / 32) + 32; omega
  | ⟨1, _⟩ => show 0 ≤ (y 1).val ∧ (y 1).val < 0 + 320; omega

theorem coverX (v : Fin 8 → Fin 20 → FVec F S32x128 .f32) (y : S256x2560.Idx) : ∃ p ∈ piecesX v, y ∈ p.1.set :=
  let ⟨g, c, h⟩ := in_rectW y; ⟨_, mem_byChunk (pieceX v) g c, h⟩
theorem coverC (v : Fin 8 → Fin 20 → FVec F S32x128 .f32) (y : S256x2560.Idx) : ∃ p ∈ piecesC v, y ∈ p.1.set :=
  let ⟨g, c, h⟩ := in_rectW y; ⟨_, mem_byChunk (pieceC v) g c, h⟩
theorem coverS (v : Fin 8 → Fin 20 → FVec F S32x128 .f32) (y : S256x80.Idx) : ∃ p ∈ piecesS v, y ∈ p.1.set :=
  let ⟨g, h⟩ := in_rectS y; ⟨_, mem_byGroup (pieceS v) g, h⟩
theorem coverK (v : Fin 8 → Fin 20 → FVec F S32x128 .f32) (y : S256x320.Idx) : ∃ p ∈ piecesK v, y ∈ p.1.set :=
  let ⟨g, h⟩ := in_rectK y; ⟨_, mem_byGroup (pieceK v) g, h⟩

/-- The chunk of the rotated tile a row group loads. -/
def chunkOf (x0 : Vec F S256x2560 .bf16) (x1 : Vec F S256x256 .bf16) (g : Fin 8) (c : Fin 20) : FVec F S32x128 .f32 := View.ld (rot x0 x1) (rectW g c)

/-- The same chunk read through the scratch buffer the rotation was stored in. -/
def chunkVia {sig : RefSig} {κ : Kind} {sp : Space} (w : View sig κ sp S256x2560 .f32) (x0 : Vec F S256x2560 .bf16) (x1 : Vec F S256x256 .bf16) (g : Fin 8) (c : Fin 20) :
    FVec F S32x128 .f32 := w.readCov (rotL x0 x1) (rectW g c).toLoadRect

theorem chunkVia_eq {sig : RefSig} {κ : Kind} {sp : Space} (w : View sig κ sp S256x2560 .f32) (x0 : Vec F S256x2560 .bf16) (x1 : Vec F S256x256 .bf16) :
    chunkVia w x0 x1 = chunkOf x0 x1 := by
  funext g c
  unfold chunkVia chunkOf rot View.readCov
  rw [← View.read_writes_eq_canon w w.junk (rotL x0 x1) (rot_cover x0 x1)]
  rfl

/-- What the body leaves in its four output buffers. -/
def outX (x0 : Vec F S256x2560 .bf16) (x1 : Vec F S256x256 .bf16) : Vec F S256x2560 .bf16 := View.canon (piecesX (chunkOf x0 x1))
def outC (x0 : Vec F S256x2560 .bf16) (x1 : Vec F S256x256 .bf16) : Vec F S256x2560 .fp8e4m3 := View.canon (piecesC (chunkOf x0 x1))
def outS (x0 : Vec F S256x2560 .bf16) (x1 : Vec F S256x256 .bf16) : Vec F S256x80 .i8 := View.canon (piecesS (chunkOf x0 x1))
def outK (x0 : Vec F S256x2560 .bf16) (x1 : Vec F S256x256 .bf16) : Vec F S256x320 .i8 := View.canon (piecesK (chunkOf x0 x1))

/-- A buffer read back after a list of stores that is the list `L'`, which covers it. -/
theorem read_writes_of_eq {Val : EltTy → Type} [∀ e, Nonempty (Val e)] {sig : RefSig} {κ : Kind} {sp : Space} {s : Shape} {e : EltTy}
    (v : View sig κ sp s e) (f : v.ty.Contents Val) (L L' : List (View.Piece Val s e)) (h : L = L')
    (hc : ∀ y, ∃ p ∈ L', y ∈ p.1.set) : v.read Val (v.writes Val f L) = View.canon L' := by
  subst h; exact View.read_writes_eq_canon v f L hc

end Cert.Quant.XTile

end
-- ==== Proof.QuantTree.lean ====
/-
  The merge trees of the quantising call lane by lane: a lane of the merged vector holds the combination of one part over
  a group of neighbouring lanes. The tree is run once over lists of positions, where that is a finite check, and carried
  to sums and to bitwise ors by mapping.
-/
module

public import proofs.«01_k».proof.Proof.QuantOps
public import Idealize.ShloMosaic.Lib.KernelVsHost
public import Idealize.ShloMosaic.Lib.PointwiseCore
public import Idealize.ShloMosaic.Lib.Pointwise

@[expose] public section

set_option maxRecDepth 16384

noncomputable section

namespace Cert.Quant.XTile

open Idealize.ShloMosaic Idealize.ShloMosaic.Pointwise Cert.Quant Cert.Quant.Gen

/-- One step of a merge tree in one row, lane by lane. -/
def laneStage {α : Type} (op : α → α → α) (n s : Nat) (P : Nat → Fin 128 → α) (i : Nat) (l : Fin 128) : α :=
  if i + s < n ∧ BitVec.ofNat 32 l.val &&& BitVec.ofNat 32 s ≠ 0#32 then
    op (P (i + s) l) (P (i + s) ⟨(l.val + (128 - s)) % 128, Nat.mod_lt _ (by decide)⟩)
  else op (P i l) (P i ⟨(l.val + s) % 128, Nat.mod_lt _ (by decide)⟩)

/-- A map that respects the combination passes through a step. -/
theorem laneStage_map {α β : Type} (op : α → α → α) (op' : β → β → β) (f : α → β) (hf : ∀ a b, f (op a b) = op' (f a) (f b))
    (n s : Nat) (P : Nat → Fin 128 → α) :
    laneStage op' n s (fun i l => f (P i l)) = fun i l => f (laneStage op n s P i l) := by
  funext i l
  unfold laneStage
  split
  · rw [hf]
  · rw [hf]

/-- The five steps over 20 parts, and the three over eight and four. -/
def tree20 {α : Type} (op : α → α → α) (P : Nat → Fin 128 → α) : Fin 128 → α :=
  laneStage op 2 1 (laneStage op 4 2 (laneStage op 8 4 (laneStage op 16 8 (laneStage op 20 16 P)))) 0
def tree8 {α : Type} (op : α → α → α) (P : Nat → Fin 128 → α) : Fin 128 → α :=
  laneStage op 2 1 (laneStage op 4 2 (laneStage op 8 4 P)) 0
def tree4 {α : Type} (op : α → α → α) (P : Nat → Fin 128 → α) : Fin 128 → α :=
  laneStage op 2 1 (laneStage op 4 2 (laneStage op 4 4 P)) 0

theorem tree20_map {α β : Type} (op : α → α → α) (op' : β → β → β) (f : α → β) (hf : ∀ a b, f (op a b) = op' (f a) (f b))
    (P : Nat → Fin 128 → α) : tree20 op' (fun i l => f (P i l)) = fun l => f (tree20 op P l) := by
  unfold tree20
  simp only [laneStage_map op op' f hf]

theorem tree8_map {α β : Type} (op : α → α → α) (op' : β → β → β) (f : α → β) (hf : ∀ a b, f (op a b) = op' (f a) (f b))
    (P : Nat → Fin 128 → α) : tree8 op' (fun i l => f (P i l)) = fun l => f (tree8 op P l) := by
  unfold tree8
  simp only [laneStage_map op op' f hf]

theorem tree4_map {α β : Type} (op : α → α → α) (op' : β → β → β) (f : α → β) (hf : ∀ a b, f (op a b) = op' (f a) (f b))
    (P : Nat → Fin 128 → α) : tree4 op' (fun i l => f (P i l)) = fun l => f (tree4 op P l) := by
  unfold tree4
  simp only [laneStage_map op op' f hf]

/-- Positions: part `i`, lane `l` is number 128·i + l. -/
def pos (i : Nat) (l : Fin 128) : List Nat := [128 * i + l.val]

theorem tree20_pos : ∀ (q : Fin 4) (c : Fin 20),
    (tree20 (· ++ ·) pos ⟨32 * q.val + c.val, by omega⟩).isPerm (List.ofFn fun u : Fin 32 => 128 * c.val + (32 * q.val + u.val)) = true := by
  decide +kernel

theorem tree8_pos : ∀ (g : Fin 16) (c : Fin 8),
    (tree8 (· ++ ·) pos ⟨8 * g.val + c.val, by omega⟩).isPerm (List.ofFn fun u : Fin 8 => 128 * c.val + (8 * g.val + u.val)) = true := by
  decide +kernel

theorem tree4_pos : ∀ (g : Fin 16) (c : Fin 4),
    (tree4 (· ++ ·) pos ⟨8 * g.val + c.val, by omega⟩).isPerm (List.ofFn fun u : Fin 8 => 128 * c.val + (8 * g.val + u.val)) = true := by
  decide +kernel

/-- The value at a numbered position. -/
def atPos {α : Type} (P : Nat → Fin 128 → α) (k : Nat) : α := P (k / 128) ⟨k % 128, Nat.mod_lt _ (by decide)⟩

theorem atPos_mk {α : Type} (P : Nat → Fin 128 → α) (i : Nat) (l : Fin 128) : atPos P (128 * i + l.val) = P i l := by
  unfold atPos
  have h := l.isLt
  exact congrArg₂ P (by omega) (Fin.ext (by show (128 * i + l.val) % 128 = l.val; omega))

def orAll {w : Nat} (L : List (BitVec w)) : BitVec w := L.foldr (· ||| ·) 0#w

theorem orAll_append {w : Nat} (a b : List (BitVec w)) : orAll (a ++ b) = orAll a ||| orAll b := by
  induction a with
  | nil => simp [orAll]
  | cons x a ih =>
    show x ||| orAll (a ++ b) = (x ||| orAll a) ||| orAll b
    rw [ih, BitVec.or_assoc]

theorem orAll_perm {w : Nat} {a b : List (BitVec w)} (h : a.Perm b) : orAll a = orAll b := by
  induction h with
  | nil => rfl
  | cons x _ ih => show x ||| _ = x ||| _; exact congrArg _ ih
  | swap x y l =>
    show y ||| (x ||| orAll l) = x ||| (y ||| orAll l)
    rw [← BitVec.or_assoc, ← BitVec.or_assoc, BitVec.or_comm y x]
  | trans _ _ h1 h2 => exact h1.trans h2

/-- Sums: lane 32·q + c holds the sum of part `c` over the 32 lanes of group `q`. -/
theorem tree20_sum (P : Nat → Fin 128 → EReal) (q : Fin 4) (c : Fin 20) :
    tree20 (fun a b : EReal => a + b) P ⟨32 * q.val + c.val, by omega⟩ = ∑ u : Fin 32, P c.val ⟨32 * q.val + u.val, by omega⟩ := by
  have e : P = fun i l => (List.map (atPos P) (pos i l)).sum := by
    funext i l
    show _ = atPos P (128 * i + l.val) + 0
    rw [atPos_mk, add_zero]
  have h := tree20_map (· ++ ·) (fun a b : EReal => a + b) (fun L : List Nat => (List.map (atPos P) L).sum)
    (fun a b => by rw [List.map_append, List.sum_append]) pos
  rw [← e] at h
  rw [h]
  have p := List.isPerm_iff.mp (tree20_pos q c)
  show (List.map (atPos P) _).sum = _
  rw [(p.map (atPos P)).sum_eq, List.map_ofFn, List.sum_ofFn]
  exact Finset.sum_congr (M := EReal) rfl fun u _ => atPos_mk P c.val ⟨32 * q.val + u.val, by omega⟩

/-- Ors over eight parts: lane 8·g + c holds the or of part `c` over the eight lanes of group `g`. -/
theorem tree8_or (P : Nat → Fin 128 → BitVec 32) (g : Fin 16) (c : Fin 8) :
    tree8 (· ||| ·) P ⟨8 * g.val + c.val, by omega⟩ = orAll (List.ofFn fun u : Fin 8 => P c.val ⟨8 * g.val + u.val, by omega⟩) := by
  have e : P = fun i l => orAll (List.map (atPos P) (pos i l)) := by
    funext i l
    show _ = atPos P (128 * i + l.val) ||| 0#32
    rw [atPos_mk, BitVec.or_zero]
  have h := tree8_map (· ++ ·) (fun a b : BitVec 32 => a ||| b) (fun L : List Nat => orAll (List.map (atPos P) L))
    (fun a b => by rw [List.map_append, orAll_append]) pos
  rw [← e] at h
  rw [h]
  have p := List.isPerm_iff.mp (tree8_pos g c)
  show orAll (List.map (atPos P) _) = _
  rw [orAll_perm (p.map (atPos P)), List.map_ofFn]
  exact congrArg (fun f : Fin 8 → BitVec 32 => orAll (List.ofFn f)) (funext fun u => atPos_mk P c.val ⟨8 * g.val + u.val, by omega⟩)

theorem tree4_or (P : Nat → Fin 128 → BitVec 32) (g : Fin 16) (c : Fin 4) :
    tree4 (· ||| ·) P ⟨8 * g.val + c.val, by omega⟩ = orAll (List.ofFn fun u : Fin 8 => P c.val ⟨8 * g.val + u.val, by omega⟩) := by
  have e : P = fun i l => orAll (List.map (atPos P) (pos i l)) := by
    funext i l
    show _ = atPos P (128 * i + l.val) ||| 0#32
    rw [atPos_mk, BitVec.or_zero]
  have h := tree4_map (· ++ ·) (fun a b : BitVec 32 => a ||| b) (fun L : List Nat => orAll (List.map (atPos P) L))
    (fun a b => by rw [List.map_append, orAll_append]) pos
  rw [← e] at h
  rw [h]
  have p := List.isPerm_iff.mp (tree4_pos g c)
  show orAll (List.map (atPos P) _) = _
  rw [orAll_perm (p.map (atPos P)), List.map_ofFn]
  exact congrArg (fun f : Fin 8 → BitVec 32 => orAll (List.ofFn f)) (funext fun u => atPos_mk P c.val ⟨8 * g.val + u.val, by omega⟩)

/-! ### The vectors' steps are the lanes' -/

theorem rot_toNat (s : Nat) (h : s = 1 ∨ s = 2 ∨ s = 4 ∨ s = 8 ∨ s = 16) (l : Nat) :
    (l + 128 - (BitVec.ofNat 32 s).toNat % 128) % 128 = (l + (128 - s)) % 128
    ∧ (l + 128 - (BitVec.ofNat 32 (128 - s)).toNat % 128) % 128 = (l + s) % 128 := by
  rcases h with rfl | rfl | rfl | rfl | rfl
  all_goals exact ⟨by show (l + 128 - _ % 128) % 128 = _; simp, by show (l + 128 - _ % 128) % 128 = _; simp⟩

/-- The condition a step selects by. -/
theorem sel_apply {α : Type} (a b : BitVec 32) (x y : α) :
    Scalar.select (IntOp.cmpi .ne (IntOp.andi a b) 0#32) x y = if a &&& b ≠ 0#32 then x else y := by
  unfold Scalar.select
  by_cases h : a &&& b = 0#32
  · rw [if_neg (show ¬ a &&& b ≠ 0#32 from fun h' => h' h)]
    rw [show IntOp.andi a b = 0#32 from h]
    rfl
  · rw [if_pos h]
    rw [if_pos]
    show BitVec.ofBool (a &&& b != 0#32) = 1
    rw [bne_iff_ne.mpr h]
    rfl

theorem lane_apply (r : Fin 32) (l : Fin 128) : lane (ix2 r l) = BitVec.ofNat 32 l.val := by
  show BitVec.ofNat 32 (0 * 128 + l.val) = _
  rw [Nat.zero_mul, Nat.zero_add]

theorem lane8_apply (r : Fin 8) (l : Fin 128) : lane8 (ix2 r l) = BitVec.ofNat 32 l.val := by
  show BitVec.ofNat 32 (0 * 128 + l.val) = _
  rw [Nat.zero_mul, Nat.zero_add]

theorem rotF_apply (x : FVec Ideal S32x128 .f32) (n : BitVec 32) (r : Fin 32) (l : Fin 128) :
    dynamicRotate 1 n none x rotates_S32x128_d1 (ix2 r l) = x (ix2 r ⟨(l.val + 128 - n.toNat % 128) % 128, Nat.mod_lt _ (by decide)⟩) := by
  refine Idealize.ShloMosaic.dynamicRotate_apply 1 n x _ _ _ fun b => ?_
  match b with
  | ⟨0, _⟩ => rfl
  | ⟨1, _⟩ => rfl

theorem rotI_apply (x : IVec S8x128 32) (n : BitVec 32) (r : Fin 8) (l : Fin 128) :
    dynamicRotate 1 n none x rotates_S8x128_d1 (ix2 r l) = x (ix2 r ⟨(l.val + 128 - n.toNat % 128) % 128, Nat.mod_lt _ (by decide)⟩) := by
  refine Idealize.ShloMosaic.dynamicRotate_apply 1 n x _ _ _ fun b => ?_
  match b with
  | ⟨0, _⟩ => rfl
  | ⟨1, _⟩ => rfl

theorem stageF_apply (n s : Nat) (hs : s = 1 ∨ s = 2 ∨ s = 4 ∨ s = 8 ∨ s = 16) (p : Nat → FVec Ideal S32x128 .f32) (r : Fin 32) (i : Nat) (l : Fin 128) :
    stageF (F := Ideal) n s p i (ix2 r l) = laneStage (fun a b : EReal => a + b) n s (fun i l => p i (ix2 r l)) i l := by
  obtain ⟨h1, h2⟩ := rot_toNat s hs l.val
  have low : addf (p i) (dynamicRotate 1 (BitVec.ofNat 32 (128 - s)) none (p i) rotates_S32x128_d1) (ix2 r l)
      = (p i (ix2 r l) + p i (ix2 r ⟨(l.val + s) % 128, Nat.mod_lt _ (by decide)⟩) : EReal) := by
    show (p i (ix2 r l) + dynamicRotate 1 (BitVec.ofNat 32 (128 - s)) none (p i) rotates_S32x128_d1 (ix2 r l) : EReal) = _
    rw [rotF_apply]
    simp only [h2]
  have high : addf (p (i + s)) (dynamicRotate 1 (BitVec.ofNat 32 s) none (p (i + s)) rotates_S32x128_d1) (ix2 r l)
      = (p (i + s) (ix2 r l) + p (i + s) (ix2 r ⟨(l.val + (128 - s)) % 128, Nat.mod_lt _ (by decide)⟩) : EReal) := by
    show (p (i + s) (ix2 r l) + dynamicRotate 1 (BitVec.ofNat 32 s) none (p (i + s)) rotates_S32x128_d1 (ix2 r l) : EReal) = _
    rw [rotF_apply]
    simp only [h1]
  unfold stageF stage laneStage
  by_cases h : i + s < n
  · rw [if_pos h]
    show Scalar.select (IntOp.cmpi .ne (IntOp.andi (lane (ix2 r l)) (BitVec.ofNat 32 s)) 0#32) _ _ = _
    rw [lane_apply, sel_apply, low, high]
    simp only [h, true_and]
  · rw [if_neg h, low]
    simp only [h, false_and, if_false]

theorem stageI_apply (n s : Nat) (hs : s = 1 ∨ s = 2 ∨ s = 4 ∨ s = 8 ∨ s = 16) (p : Nat → IVec S8x128 32) (r : Fin 8) (i : Nat) (l : Fin 128) :
    stageI n s p i (ix2 r l) = laneStage (· ||| ·) n s (fun i l => p i (ix2 r l)) i l := by
  obtain ⟨h1, h2⟩ := rot_toNat s hs l.val
  have low : ori (p i) (dynamicRotate 1 (BitVec.ofNat 32 (128 - s)) none (p i) rotates_S8x128_d1) (ix2 r l)
      = (p i (ix2 r l) ||| p i (ix2 r ⟨(l.val + s) % 128, Nat.mod_lt _ (by decide)⟩)) := by
    show (p i (ix2 r l) ||| dynamicRotate 1 (BitVec.ofNat 32 (128 - s)) none (p i) rotates_S8x128_d1 (ix2 r l)) = _
    rw [rotI_apply]
    simp only [h2]
  have high : ori (p (i + s)) (dynamicRotate 1 (BitVec.ofNat 32 s) none (p (i + s)) rotates_S8x128_d1) (ix2 r l)
      = (p (i + s) (ix2 r l) ||| p (i + s) (ix2 r ⟨(l.val + (128 - s)) % 128, Nat.mod_lt _ (by decide)⟩)) := by
    show (p (i + s) (ix2 r l) ||| dynamicRotate 1 (BitVec.ofNat 32 s) none (p (i + s)) rotates_S8x128_d1 (ix2 r l)) = _
    rw [rotI_apply]
    simp only [h1]
  unfold stageI stage laneStage
  by_cases h : i + s < n
  · rw [if_pos h]
    show Scalar.select (IntOp.cmpi .ne (IntOp.andi (lane8 (ix2 r l)) (BitVec.ofNat 32 s)) 0#32) _ _ = _
    rw [lane8_apply, sel_apply, low, high]
    simp only [h, true_and]
  · rw [if_neg h, low]
    simp only [h, false_and, if_false]

/-- The sums of squares: lane 32·q + c holds block `q` of chunk `c`'s. -/
theorem sumSq_apply (raw : Nat → FVec Ideal S32x128 .f32) (r : Fin 32) (q : Fin 4) (c : Fin 20) :
    sumSq (F := Ideal) raw (ix2 r ⟨32 * q.val + c.val, by omega⟩)
      = (∑ u : Fin 32, scaled (raw c.val) (ix2 r ⟨32 * q.val + u.val, by omega⟩) * scaled (raw c.val) (ix2 r ⟨32 * q.val + u.val, by omega⟩) : EReal) := by
  unfold sumSq
  simp only [stageF_apply _ _ (.inl rfl), stageF_apply _ _ (.inr (.inl rfl)), stageF_apply _ _ (.inr (.inr (.inl rfl))),
    stageF_apply _ _ (.inr (.inr (.inr (.inl rfl)))), stageF_apply _ _ (.inr (.inr (.inr (.inr rfl))))]
  exact tree20_sum (fun i l => mulf (scaled (raw i)) (scaled (raw i)) (ix2 r l)) q c

theorem merged8_apply (w : Nat → IVec S8x128 32) (r : Fin 8) (g : Fin 16) (c : Fin 8) :
    merged8 w (ix2 r ⟨8 * g.val + c.val, by omega⟩) = orAll (List.ofFn fun u : Fin 8 => w c.val (ix2 r ⟨8 * g.val + u.val, by omega⟩)) := by
  unfold merged8
  simp only [stageI_apply _ _ (.inl rfl), stageI_apply _ _ (.inr (.inl rfl)), stageI_apply _ _ (.inr (.inr (.inl rfl)))]
  exact tree8_or (fun i l => w i (ix2 r l)) g c

theorem merged4_apply (w : Nat → IVec S8x128 32) (r : Fin 8) (g : Fin 16) (c : Fin 4) :
    merged4 w (ix2 r ⟨8 * g.val + c.val, by omega⟩) = orAll (List.ofFn fun u : Fin 8 => w c.val (ix2 r ⟨8 * g.val + u.val, by omega⟩)) := by
  unfold merged4
  simp only [stageI_apply _ _ (.inl rfl), stageI_apply _ _ (.inr (.inl rfl)), stageI_apply _ _ (.inr (.inr (.inl rfl)))]
  exact tree4_or (fun i l => w i (ix2 r l)) g c

end Cert.Quant.XTile

end
-- ==== Proof.QuantScalar.lean ====
/-
  The quantiser of one block over the reals, as the kernel computes it and as the reference states it, and their equality
  where the block's scale is a normal power of two.
-/
module

public import proofs.«01_k».proof.Proof.Scale
public import Idealize.ShloMosaic.Lib.IdealHost
public import Idealize.ShloMosaic.Lib.IndicatorCount
public import Mathlib.Algebra.Order.Archimedean.Basic

@[expose] public section

set_option maxRecDepth 16384

noncomputable section

namespace Cert.Quant.Scalar

open Idealize.ShloMosaic

/-! ### The constants -/

theorem c6 : Ideal.ofBits .f32 0x40C00000#32 = ((6 : ℝ) : EReal) := by
  simp [Ideal.ofBits, Ideal.ieee, -EReal.coe_mul]; norm_num
theorem cm6 : Ideal.ofBits .f32 0xC0C00000#32 = ((-6 : ℝ) : EReal) := by
  simp [Ideal.ofBits, Ideal.ieee, -EReal.coe_mul, -EReal.coe_neg]; norm_num
theorem c2 : Ideal.ofBits .f32 0x40000000#32 = ((2 : ℝ) : EReal) := by
  simp [Ideal.ofBits, Ideal.ieee, -EReal.coe_mul]; norm_num
theorem c4 : Ideal.ofBits .f32 0x40800000#32 = ((4 : ℝ) : EReal) := by
  simp [Ideal.ofBits, Ideal.ieee, -EReal.coe_mul]; norm_num
theorem c1 : Ideal.ofBits .f32 0x3F800000#32 = ((1 : ℝ) : EReal) := by
  simp [Ideal.ofBits, Ideal.ieee, -EReal.coe_mul]; norm_num
theorem cm1 : Ideal.ofBits .f32 0xBF800000#32 = ((-1 : ℝ) : EReal) := by
  simp [Ideal.ofBits, Ideal.ieee, -EReal.coe_mul, -EReal.coe_neg]; norm_num
theorem chalf : Ideal.ofBits .f32 0x3F000000#32 = ((1 / 2 : ℝ) : EReal) := by
  simp [Ideal.ofBits, Ideal.ieee, -EReal.coe_mul]; norm_num
theorem c0 : Ideal.ofBits .f32 0x00000000#32 = ((0 : ℝ) : EReal) := by
  simp [Ideal.ofBits, Ideal.ieee, -EReal.coe_mul]
theorem c32 : Ideal.ofBits .f32 0x42000000#32 = ((32 : ℝ) : EReal) := by
  simp [Ideal.ofBits, Ideal.ieee, -EReal.coe_mul]; norm_num
theorem c32nd : Ideal.ofBits .f32 0x3D000000#32 = ((1 / 32 : ℝ) : EReal) := by
  simp [Ideal.ofBits, Ideal.ieee, -EReal.coe_mul]; norm_num

/-- A word with byte `n` in the exponent field, `n` from 1 to 254. -/
theorem word_eq (n : Nat) (h1 : 1 ≤ n) (h2 : n ≤ 254) : Ideal.ofBits .f32 (BitVec.ofNat 32 n <<< 23) = ((2 ^ ((n : ℤ) - 127) : ℝ) : EReal) := by
  have h := Cert.Scale.scale_eq (BitVec.ofNat 8 n) (by rw [BitVec.toNat_ofNat]; omega) (by rw [BitVec.toNat_ofNat]; omega)
  have e : BitVec.setWidth 32 (BitVec.ofNat 8 n) = BitVec.ofNat 32 n := by
    apply BitVec.eq_of_toNat_eq
    simp only [BitVec.toNat_setWidth, BitVec.toNat_ofNat]
    omega
  have f := (Cert.Scale.fields ⟨n, by omega⟩).2.2.2
  simp only [e] at f h
  rw [h, f, Ideal.exp2_coe]
  refine congrArg (fun r : ℝ => (r : EReal)) ?_
  show (2 : ℝ) ^ (((n : ℤ) - 127 : ℤ) : ℝ) = _
  rw [Real.rpow_intCast]

theorem exp2_int (z : ℤ) : Ideal.exp2 ((z : ℝ) : EReal) = ((2 ^ z : ℝ) : EReal) := by
  rw [Ideal.exp2_coe]
  refine congrArg (fun r : ℝ => (r : EReal)) ?_
  show (2 : ℝ) ^ (z : ℝ) = _
  rw [Real.rpow_intCast]

/-! ### The exponent -/

/-- The kernel's root mean square from the sum of squares, and the reference's. -/
def rmsK (ss : EReal) : EReal := Ideal.sqrt (ss * Ideal.ofBits .f32 0x3D000000#32)
def rmsR (ss : EReal) : EReal := Ideal.sqrt (Ideal.div ss (Ideal.ofBits .f32 0x42000000#32))

theorem rms_eq (ss : EReal) : rmsK ss = rmsR ss := by
  unfold rmsK rmsR
  refine congrArg _ ?_
  unfold Ideal.div
  rw [c32, c32nd, if_neg (by norm_cast), ← EReal.coe_inv]
  norm_num

/-- What the scale is read from. -/
def scaleOf (rms : EReal) : EReal := (Ideal.ofBits .f32 0x403AE148#32 * rms) * Ideal.ofBits .f32 0x3E2AAAAB#32

/-- One step of the kernel's search. -/
def stepK (s : BitVec 32) (a : EReal) (code : BitVec 32) : BitVec 32 :=
  Scalar.select (Ideal.cmp .oge a (Ideal.ofBits .f32 (IntOp.shli .vector (IntOp.addi code s) 23#32))) (IntOp.addi code s) code

def searchK (a : EReal) : BitVec 32 :=
  stepK 1#32 a (stepK 2#32 a (stepK 4#32 a (stepK 8#32 a (stepK 16#32 a (stepK 32#32 a (stepK 64#32 a (stepK 128#32 a 0#32)))))))

def expoK (ss : EReal) : BitVec 32 :=
  Scalar.select (Ideal.cmp .oeq (rmsK ss) (Ideal.ofBits .f32 0x00000000#32)) 0#32 (IntOp.subi (searchK (scaleOf (rmsK ss))) 127#32)

/-- The reference's exponent, from its count of powers. -/
def expoR (ss : EReal) : BitVec 32 :=
  Scalar.select (Ideal.cmp .oeq (rmsR ss) (Ideal.ofBits .f32 0x00000000#32)) 0#32
    (IntOp.subi (BitVec.ofNat 32 (Finset.univ.filter fun k : Fin 254 =>
      Ideal.cmp .oge (scaleOf (rmsR ss)) (Ideal.exp2 (((BitVec.ofNat 32 k.val - 126#32).toInt : ℝ) : EReal)) = 1#1).card) 127#32)

/-- A block the format holds: all zero, or its scale a normal power of two less than the largest. -/
def Good (ss : EReal) : Prop :=
  rmsR ss = 0 ∨ (Ideal.ofBits .f32 0x00800000#32 ≤ scaleOf (rmsR ss) ∧ scaleOf (rmsR ss) < ((2 ^ (127 : ℤ) : ℝ) : EReal))

theorem cmp_oge (x y : EReal) : Ideal.cmp .oge x y = 1#1 ↔ y ≤ x := by
  show BitVec.ofBool (decide (y ≤ x)) = 1#1 ↔ _
  by_cases h : y ≤ x <;> simp [h]

theorem select_cmp {α : Type} (p : Prop) [Decidable p] (x y : α) : Scalar.select (BitVec.ofBool (decide p)) x y = if p then x else y := by
  unfold Scalar.select
  by_cases h : p <;> simp [h]

/-- A scale in range lies between two neighbouring powers. -/
theorem between {a : EReal} (h1 : Ideal.ofBits .f32 0x00800000#32 ≤ a) (h2 : a < ((2 ^ (127 : ℤ) : ℝ) : EReal)) :
    ∃ n : Nat, 1 ≤ n ∧ n ≤ 253 ∧ ∀ z : ℤ, ((2 ^ z : ℝ) : EReal) ≤ a ↔ z ≤ (n : ℤ) - 127 := by
  have e1 : Ideal.ofBits .f32 0x00800000#32 = ((2 ^ (-126 : ℤ) : ℝ) : EReal) := word_eq 1 (by decide) (by decide)
  rw [e1] at h1
  induction a with
  | bot => exact absurd h1 (by simp)
  | top => exact absurd h2 (by simp)
  | coe x =>
    rw [EReal.coe_le_coe_iff] at h1
    rw [EReal.coe_lt_coe_iff] at h2
    have hx : 0 < x := lt_of_lt_of_le (by positivity) h1
    obtain ⟨n, hn1, hn2⟩ := exists_mem_Ico_zpow hx (by norm_num : (1 : ℝ) < 2)
    have b1 : (-126 : ℤ) < n + 1 := (zpow_lt_zpow_iff_right₀ (by norm_num : (1 : ℝ) < 2)).mp (lt_of_le_of_lt h1 hn2)
    have b2 : n < (127 : ℤ) := (zpow_lt_zpow_iff_right₀ (by norm_num : (1 : ℝ) < 2)).mp (lt_of_le_of_lt hn1 h2)
    refine ⟨(n + 127).toNat, by omega, by omega, fun z => ?_⟩
    rw [EReal.coe_le_coe_iff]
    have e : (((n + 127).toNat : ℕ) : ℤ) - 127 = n := by omega
    rw [e]
    constructor
    · intro h
      have := (zpow_lt_zpow_iff_right₀ (by norm_num : (1 : ℝ) < 2)).mp (lt_of_le_of_lt h hn2)
      omega
    · intro h
      exact le_trans (zpow_le_zpow_right₀ (by norm_num) h) hn1

/-- The thresholds the search compares with. -/
theorem threshold {a : EReal} {n : Nat} (hn1 : 1 ≤ n) (hn2 : n ≤ 253) (h2 : a < ((2 ^ (127 : ℤ) : ℝ) : EReal))
    (hz : ∀ z : ℤ, ((2 ^ z : ℝ) : EReal) ≤ a ↔ z ≤ (n : ℤ) - 127) (k : Nat) (hk : 1 ≤ k) (hk' : k ≤ 255) :
    Ideal.ofBits .f32 (BitVec.ofNat 32 k <<< 23) ≤ a ↔ k ≤ n := by
  by_cases h : k ≤ 254
  · rw [word_eq k hk h, hz]
    omega
  · have e : k = 255 := by omega
    subst e
    have t : Ideal.ofBits .f32 (BitVec.ofNat 32 255 <<< 23) = ⊤ := by
      simp [Ideal.ofBits, Ideal.ieee]
    rw [t, top_le_iff]
    constructor
    · intro h; rw [h] at h2; exact absurd h2 (by simp)
    · intro h; omega

def stepN (s n c : Nat) : Nat := if c + s ≤ n then c + s else c

theorem stepN_le (s n c : Nat) : stepN s n c ≤ c + s := by unfold stepN; split <;> omega

theorem stepK_eq {a : EReal} {n : Nat} (ht : ∀ k : Nat, 1 ≤ k → k ≤ 255 → (Ideal.ofBits .f32 (BitVec.ofNat 32 k <<< 23) ≤ a ↔ k ≤ n))
    (s c : Nat) (hs : 1 ≤ s) (h : c + s ≤ 255) : stepK (BitVec.ofNat 32 s) a (BitVec.ofNat 32 c) = BitVec.ofNat 32 (stepN s n c) := by
  unfold stepK stepN
  have e : IntOp.addi (BitVec.ofNat 32 c) (BitVec.ofNat 32 s) = BitVec.ofNat 32 (c + s) := (BitVec.ofNat_add c s).symm
  rw [e]
  show Scalar.select (BitVec.ofBool (decide (Ideal.ofBits .f32 (BitVec.ofNat 32 (c + s) <<< 23) ≤ a))) _ _ = _
  rw [select_cmp]
  simp only [ht (c + s) (by omega) h]
  split <;> rfl

theorem stepN_all : ∀ n : Fin 256, stepN 1 n.val (stepN 2 n.val (stepN 4 n.val (stepN 8 n.val (stepN 16 n.val (stepN 32 n.val (stepN 64 n.val (stepN 128 n.val 0))))))) = n.val := by
  decide +kernel

theorem search_eq {a : EReal} {n : Nat} (hn : n ≤ 255) (ht : ∀ k : Nat, 1 ≤ k → k ≤ 255 → (Ideal.ofBits .f32 (BitVec.ofNat 32 k <<< 23) ≤ a ↔ k ≤ n)) :
    searchK a = BitVec.ofNat 32 n := by
  have hall := stepN_all ⟨n, by omega⟩
  simp only at hall
  have b1 := stepN_le 128 n 0
  have b2 := stepN_le 64 n (stepN 128 n 0)
  have b3 := stepN_le 32 n (stepN 64 n (stepN 128 n 0))
  have b4 := stepN_le 16 n (stepN 32 n (stepN 64 n (stepN 128 n 0)))
  have b5 := stepN_le 8 n (stepN 16 n (stepN 32 n (stepN 64 n (stepN 128 n 0))))
  have b6 := stepN_le 4 n (stepN 8 n (stepN 16 n (stepN 32 n (stepN 64 n (stepN 128 n 0)))))
  have b7 := stepN_le 2 n (stepN 4 n (stepN 8 n (stepN 16 n (stepN 32 n (stepN 64 n (stepN 128 n 0))))))
  unfold searchK
  rw [show (0#32) = BitVec.ofNat 32 0 from rfl,
    stepK_eq ht 128 _ (by decide) (by omega), stepK_eq ht 64 _ (by decide) (by omega), stepK_eq ht 32 _ (by decide) (by omega),
    stepK_eq ht 16 _ (by decide) (by omega), stepK_eq ht 8 _ (by decide) (by omega), stepK_eq ht 4 _ (by decide) (by omega),
    stepK_eq ht 2 _ (by decide) (by omega), stepK_eq ht 1 _ (by decide) (by omega), hall]

theorem power_word : ∀ k : Fin 254, (BitVec.ofNat 32 k.val - 126#32).toInt = (k.val : ℤ) - 126 := by decide +kernel

theorem count_lt : ∀ n : Fin 254, (Finset.univ.filter fun k : Fin 254 => k.val + 1 ≤ n.val).card = n.val := by decide +kernel

/-- Both exponents are the same, from -126 to 126. -/
theorem expo_eq {ss : EReal} (h : Good ss) :
    ∃ n : Nat, 1 ≤ n ∧ n ≤ 253 ∧ expoK ss = BitVec.ofNat 32 n - 127#32 ∧ expoR ss = BitVec.ofNat 32 n - 127#32 := by
  unfold expoK expoR
  rw [rms_eq]
  show ∃ n : Nat, 1 ≤ n ∧ n ≤ 253 ∧ Scalar.select (BitVec.ofBool (decide (rmsR ss = Ideal.ofBits .f32 0x00000000#32))) _ _ = _
    ∧ Scalar.select (BitVec.ofBool (decide (rmsR ss = Ideal.ofBits .f32 0x00000000#32))) _ _ = _
  rw [Ideal.ofBits_zero_f32]
  by_cases hr : rmsR ss = 0
  · refine ⟨127, by decide, by decide, ?_, ?_⟩
    · rw [select_cmp, if_pos hr]; decide
    · rw [select_cmp, if_pos hr]; decide
  · obtain ⟨g1, g2⟩ := h.resolve_left hr
    obtain ⟨n, h1, h2, hz⟩ := between g1 g2
    refine ⟨n, h1, h2, ?_, ?_⟩
    · rw [select_cmp, if_neg hr, search_eq (by omega) (threshold h1 h2 g2 hz)]
      rfl
    · rw [select_cmp, if_neg hr]
      have e : (Finset.univ.filter fun k : Fin 254 =>
          Ideal.cmp .oge (scaleOf (rmsR ss)) (Ideal.exp2 (((BitVec.ofNat 32 k.val - 126#32).toInt : ℝ) : EReal)) = 1#1)
          = Finset.univ.filter fun k : Fin 254 => k.val + 1 ≤ n := by
        refine Finset.filter_congr fun k _ => ?_
        rw [cmp_oge, power_word, exp2_int, hz]
        omega
      rw [e, count_lt ⟨n, by omega⟩]
      rfl

/-! ### The scales -/

/-- The kernel's words, down and up, from the exponent. -/
def downK (e : BitVec 32) : BitVec 32 := IntOp.shli .vector (IntOp.subi 127#32 e) 23#32
def upK (d : BitVec 32) : BitVec 32 := IntOp.subi 2130706432#32 d

/-- The reference's factors. -/
def downR (e : BitVec 32) : EReal := Ideal.exp2 (((IntOp.subi 0#32 e).toInt : ℝ) : EReal)
def byteOfExpo (e : BitVec 32) : BitVec 8 := BitVec.setWidth 8 (IntOp.addi e 127#32)
def upR (e : BitVec 32) : EReal := Ideal.exp2 (((IntOp.subi (BitVec.setWidth 32 (byteOfExpo e)) 127#32).toInt : ℝ) : EReal)

theorem words : ∀ n : Fin 254, 1 ≤ n.val →
    downK (BitVec.ofNat 32 n.val - 127#32) = BitVec.ofNat 32 (254 - n.val) <<< 23
    ∧ upK (BitVec.ofNat 32 (254 - n.val) <<< 23) = BitVec.ofNat 32 n.val <<< 23
    ∧ (IntOp.subi 0#32 (BitVec.ofNat 32 n.val - 127#32)).toInt = ((254 - n.val : ℕ) : ℤ) - 127
    ∧ (IntOp.subi (BitVec.setWidth 32 (byteOfExpo (BitVec.ofNat 32 n.val - 127#32))) 127#32).toInt = (n.val : ℤ) - 127 := by
  decide +kernel

theorem down_eq {ss : EReal} (h : Good ss) : Ideal.ofBits .f32 (downK (expoK ss)) = downR (expoR ss) := by
  obtain ⟨n, h1, h2, e1, e2⟩ := expo_eq h
  obtain ⟨w1, -, w3, -⟩ := words ⟨n, by omega⟩ h1
  rw [e1, e2]
  unfold downR
  simp only at w1 w3
  rw [w1, w3, word_eq (254 - n) (by omega) (by omega), exp2_int]

theorem up_eq {ss : EReal} (h : Good ss) : Ideal.ofBits .f32 (upK (downK (expoK ss))) = upR (expoR ss) := by
  obtain ⟨n, h1, h2, e1, e2⟩ := expo_eq h
  obtain ⟨w1, w2, -, w4⟩ := words ⟨n, by omega⟩ h1
  rw [e1, e2]
  unfold upR
  simp only at w1 w2 w4
  rw [w1, w2, w4, word_eq n h1 (by omega), exp2_int]

theorem byte_eq {ss : EReal} (h : Good ss) : byteOfExpo (expoK ss) = byteOfExpo (expoR ss) := by
  obtain ⟨n, h1, h2, e1, e2⟩ := expo_eq h
  rw [e1, e2]

/-! ### The rounding -/

def clip (v : EReal) : EReal := min (Ideal.ofBits .f32 0x40C00000#32) (max (Ideal.ofBits .f32 0xC0C00000#32) v)

def quantK (v : EReal) : EReal :=
  let cl := clip v
  let am := max cl (-cl)
  let power := Scalar.select (Ideal.cmp .olt am (Ideal.ofBits .f32 0x40000000#32)) (Ideal.ofBits .f32 0x3F800000#32)
    (Scalar.select (Ideal.cmp .olt am (Ideal.ofBits .f32 0x40800000#32)) (Ideal.ofBits .f32 0x40000000#32) (Ideal.ofBits .f32 0x40800000#32))
  let q := Ideal.liftRound Ideal.roundHalfEven (cl * Ideal.div (Ideal.ofBits .f32 0x40000000#32) power) * (Ideal.ofBits .f32 0x3F000000#32 * power)
  Scalar.select (Ideal.cmp .olt v (Ideal.ofBits .f32 0x00000000#32)) (Ideal.ofBits .f32 0x00000000#32 - max q (-q)) q

def quantR (v : EReal) : EReal :=
  let c := clip v
  let am := max c (-c)
  let step := Scalar.select (Ideal.cmp .olt am (Ideal.ofBits .f32 0x40000000#32)) (Ideal.ofBits .f32 0x3F000000#32)
    (Scalar.select (Ideal.cmp .olt am (Ideal.ofBits .f32 0x40800000#32)) (Ideal.ofBits .f32 0x3F800000#32) (Ideal.ofBits .f32 0x40000000#32))
  let sign := Scalar.select (Ideal.cmp .olt c (Ideal.ofBits .f32 0x00000000#32)) (Ideal.ofBits .f32 0xBF800000#32)
    (Scalar.select (Ideal.cmp .ogt c (Ideal.ofBits .f32 0x00000000#32)) (Ideal.ofBits .f32 0x3F800000#32) (Ideal.ofBits .f32 0x00000000#32))
  (sign * step) * Ideal.liftRound Ideal.roundHalfEven (am * Ideal.div (Ideal.ofBits .f32 0x3F800000#32) step)

theorem coe_max' (x y : ℝ) : ((max x y : ℝ) : EReal) = max (x : EReal) (y : EReal) := EReal.coe_strictMono.monotone.map_max
theorem coe_min' (x y : ℝ) : ((min x y : ℝ) : EReal) = min (x : EReal) (y : EReal) := EReal.coe_strictMono.monotone.map_min

theorem clip_real (v : EReal) : ∃ x : ℝ, clip v = (x : EReal) ∧ (v < 0 ↔ x < 0) := by
  unfold clip
  rw [c6, cm6]
  induction v with
  | bot => exact ⟨-6, by rw [max_eq_left bot_le, ← coe_min']; norm_num, by simp⟩
  | top => exact ⟨6, by rw [max_eq_right le_top, min_eq_left le_top], by simp⟩
  | coe r =>
    refine ⟨min 6 (max (-6) r), by rw [← coe_max', ← coe_min'], ?_⟩
    rw [EReal.coe_neg']
    constructor
    · intro h; exact lt_of_le_of_lt (min_le_right _ _) (max_lt (by norm_num) h)
    · intro h
      by_contra h'
      have : (0 : ℝ) ≤ min 6 (max (-6) r) := le_min (by norm_num) (le_trans (not_lt.mp h') (le_max_right _ _))
      exact absurd h (not_lt.mpr this)

theorem round_zero : Ideal.roundHalfEven 0 = 0 := by
  unfold Ideal.roundHalfEven; norm_num

theorem round_nonneg {r : ℝ} (h : 0 ≤ r) : 0 ≤ Ideal.roundHalfEven r := by
  have f : (0 : ℤ) ≤ ⌊r⌋ := Int.floor_nonneg.mpr h
  unfold Ideal.roundHalfEven
  dsimp only
  split_ifs <;> omega

theorem round_neg (r : ℝ) : Ideal.roundHalfEven (-r) = -Ideal.roundHalfEven r := by
  by_cases hi : (⌊r⌋ : ℝ) = r
  · have e : ⌊-r⌋ = -⌊r⌋ := by
      rw [← hi, ← Int.cast_neg, Int.floor_intCast, Int.floor_intCast]
    unfold Ideal.roundHalfEven
    dsimp only
    rw [e]
    push_cast
    rw [if_pos (by rw [hi]; norm_num), if_pos (by rw [hi]; norm_num)]
  · have l1 : (⌊r⌋ : ℝ) < r := lt_of_le_of_ne (Int.floor_le r) hi
    have l2 := Int.lt_floor_add_one r
    have e : ⌊-r⌋ = -⌊r⌋ - 1 := by
      rw [Int.floor_eq_iff]
      push_cast
      constructor <;> linarith
    unfold Ideal.roundHalfEven
    dsimp only
    rw [e]
    push_cast
    by_cases a1 : r - (⌊r⌋ : ℝ) < 1 / 2
    · rw [if_pos a1, if_neg (by linarith), if_pos (by linarith)]; ring
    · by_cases a2 : 1 / 2 < r - (⌊r⌋ : ℝ)
      · rw [if_neg a1, if_pos a2, if_pos (by linarith)]; ring
      · rw [if_neg a1, if_neg a2, if_neg (by linarith), if_neg (by linarith)]
        by_cases ev : Even ⌊r⌋
        · rw [if_pos ev, if_neg (by rw [Int.even_sub_one, even_neg]; simpa using ev)]; ring
        · rw [if_neg ev, if_pos (by rw [Int.even_sub_one, even_neg]; exact ev)]; ring

/-- The two roundings at one width of step, `p` being twice the step. -/
theorem round_eq (x p st : ℝ) (hp : 0 < p) (hst : st = p / 2) (neg : Prop) [Decidable neg] (hneg : neg ↔ x < 0) :
    (if neg then ((0 : ℝ) : EReal) - max
        (Ideal.liftRound Ideal.roundHalfEven ((x : EReal) * Ideal.div ((2 : ℝ) : EReal) (p : EReal)) * (((1 / 2 : ℝ) : EReal) * (p : EReal)))
        (-(Ideal.liftRound Ideal.roundHalfEven ((x : EReal) * Ideal.div ((2 : ℝ) : EReal) (p : EReal)) * (((1 / 2 : ℝ) : EReal) * (p : EReal))))
      else Ideal.liftRound Ideal.roundHalfEven ((x : EReal) * Ideal.div ((2 : ℝ) : EReal) (p : EReal)) * (((1 / 2 : ℝ) : EReal) * (p : EReal)))
    = ((if x < 0 then ((-1 : ℝ) : EReal) else if 0 < x then ((1 : ℝ) : EReal) else ((0 : ℝ) : EReal)) * (st : EReal))
      * Ideal.liftRound Ideal.roundHalfEven ((max (x : EReal) (-(x : EReal))) * Ideal.div ((1 : ℝ) : EReal) (st : EReal)) := by
  subst hst
  have hp0 : p ≠ 0 := ne_of_gt hp
  have d1 : Ideal.div ((2 : ℝ) : EReal) (p : EReal) = ((2 / p : ℝ) : EReal) := by
    unfold Ideal.div
    rw [if_neg (by rw [EReal.coe_eq_zero]; exact hp0), ← EReal.coe_inv, ← EReal.coe_mul, div_eq_mul_inv]
  have d2 : Ideal.div ((1 : ℝ) : EReal) ((p / 2 : ℝ) : EReal) = ((2 / p : ℝ) : EReal) := by
    unfold Ideal.div
    rw [if_neg (by rw [EReal.coe_eq_zero]; positivity), ← EReal.coe_inv, ← EReal.coe_mul]
    congr 1
    field_simp
  rw [d1, d2, ← EReal.coe_neg, ← coe_max', ← EReal.coe_mul, ← EReal.coe_mul, ← EReal.coe_mul, Ideal.liftRound_coe, Ideal.liftRound_coe, ← EReal.coe_mul,
    ← EReal.coe_neg, ← coe_max', ← EReal.coe_sub]
  rcases lt_trichotomy x 0 with h | h | h
  · rw [if_pos (hneg.mpr h), if_pos h, ← EReal.coe_mul, ← EReal.coe_mul]
    refine congrArg (fun r : ℝ => (r : EReal)) ?_
    have hm : max x (-x) = -x := max_eq_right (by linarith)
    rw [hm, show x * (2 / p) = -(-x * (2 / p)) by ring, round_neg]
    have hx : 0 ≤ -x := by linarith
    have hn : 0 ≤ Ideal.roundHalfEven (-x * (2 / p)) := round_nonneg (by positivity)
    have hn' : (0 : ℝ) ≤ (Ideal.roundHalfEven (-x * (2 / p)) : ℝ) := by exact_mod_cast hn
    push_cast
    rw [max_eq_right (by nlinarith)]
    ring
  · subst h
    rw [if_neg (by rw [hneg]; exact lt_irrefl _), if_neg (lt_irrefl _), if_neg (lt_irrefl _), ← EReal.coe_mul, ← EReal.coe_mul]
    refine congrArg (fun r : ℝ => (r : EReal)) ?_
    norm_num [round_zero]
  · rw [if_neg (by rw [hneg]; exact not_lt.mpr h.le), if_neg (not_lt.mpr h.le), if_pos h, ← EReal.coe_mul, ← EReal.coe_mul]
    refine congrArg (fun r : ℝ => (r : EReal)) ?_
    have hm : max x (-x) = x := max_eq_left (by linarith)
    rw [hm]
    ring

/-- The kernel's rounding is the reference's, at every value. -/
theorem quant_eq (v : EReal) : quantK v = quantR v := by
  obtain ⟨x, hx, hv⟩ := clip_real v
  unfold quantK quantR
  dsimp only [Ideal.cmp]
  rw [hx, c0, c1, c2, c4, cm1, chalf]
  simp only [select_cmp]
  have hv' : v < ((0 : ℝ) : EReal) ↔ x < 0 := by rw [EReal.coe_zero]; exact hv
  have hx0 : ((x : EReal) < ((0 : ℝ) : EReal)) ↔ x < 0 := EReal.coe_lt_coe_iff
  have hx1 : (((0 : ℝ) : EReal) < (x : EReal)) ↔ 0 < x := EReal.coe_lt_coe_iff
  simp only [hx0, hx1]
  by_cases A : max (x : EReal) (-(x : EReal)) < ((2 : ℝ) : EReal)
  · rw [if_pos A, if_pos A]
    exact round_eq x 1 (1 / 2) (by norm_num) (by norm_num) _ hv'
  · rw [if_neg A, if_neg A]
    by_cases B : max (x : EReal) (-(x : EReal)) < ((4 : ℝ) : EReal)
    · rw [if_pos B, if_pos B]
      exact round_eq x 2 1 (by norm_num) (by norm_num) _ hv'
    · rw [if_neg B, if_neg B]
      exact round_eq x 4 2 (by norm_num) (by norm_num) _ hv'

end Cert.Quant.Scalar

end
-- ==== Proof.QuantGather.lean ====
/-
  The gathers of a row group, its scalar steps at an index, and flags packed into bytes.
-/
module

public import proofs.«01_k».proof.Proof.QuantTree
public import proofs.«01_k».proof.Proof.QuantScalar
public import Idealize.ShloMosaic.Lib.Pipeline.Value

@[expose] public section

set_option maxRecDepth 16384

noncomputable section

namespace Cert.Quant.XTile

open Idealize.ShloMosaic Idealize.ShloMosaic.Pointwise Cert.Quant Cert.Quant.Gen Cert.Quant.Scalar

/-! ### The gathers -/

theorem cast_back (v : IVec S32x128 32) :
    shapeCast S32x128 (shapeCast S32x128x1 v shapeCasts_S32x128_S32x128x1) shapeCasts_S32x128x1_S32x128 = v := by
  funext i
  idx_vars i
  pointwise

theorem cast_back8 (v : IVec S8x128 32) :
    shapeCast S8x128 (shapeCast S8x128x1 v shapeCasts_S8x128_S8x128x1) shapeCasts_S8x128x1_S8x128 = v := by
  funext i
  idx_vars i
  pointwise

/-- A gather's index in one lane, wrapped. -/
def wrapWord (w : BitVec 32) : BitVec 32 := Scalar.select (IntOp.cmpi .slt w 0#32) (IntOp.addi w 128#32) w

theorem take_apply (x w : IVec S32x128 32) (r : Fin 32) (l k : Fin 128) (h : (wrapWord (w (ix2 r l))).toNat % 128 = k.val) :
    take x w (ix2 r l) = x (ix2 r k) := by
  unfold take
  rw [cast_back]
  show x _ = x _
  congr 1
  funext a
  match a with
  | ⟨0, _⟩ => rfl
  | ⟨1, _⟩ => exact Fin.ext h

theorem take8_apply (x w : IVec S8x128 32) (r : Fin 8) (l k : Fin 128) (h : (wrapWord (w (ix2 r l))).toNat % 128 = k.val) :
    take8 x w (ix2 r l) = x (ix2 r k) := by
  unfold take8
  rw [cast_back8]
  show x _ = x _
  congr 1
  funext a
  match a with
  | ⟨0, _⟩ => rfl
  | ⟨1, _⟩ => exact Fin.ext h

/-- The lane's number modulo and divided by `d`, the division rounded down, times `k` and added. -/
def laneSplit (d k v : BitVec 32) : BitVec 32 :=
  let m : BitVec 32 := Scalar.select (Scalar.cmpi .eq d 0#32) 1#32 d
  let rem := IntOp.remsi .vector v m
  let md := Scalar.select
    (IntOp.andi (IntOp.xori (IntOp.cmpi .slt rem 0#32) (Scalar.cmpi .slt m 0#32)) (IntOp.cmpi .ne rem 0#32))
    (IntOp.addi rem m) rem
  let q := IntOp.divsi .vector v d
  let t := Scalar.select
    (IntOp.andi
      (IntOp.cmpi .ne (IntOp.subi ((IntOp.cmpi .sgt v 0#32).setWidth 32) ((IntOp.cmpi .slt v 0#32).setWidth 32))
        (Scalar.subi (Scalar.extui (Scalar.cmpi .sgt d 0#32)) (Scalar.extui (Scalar.cmpi .slt d 0#32))))
      (IntOp.cmpi .ne (IntOp.remsi .vector v d) 0#32))
    (IntOp.subi q 1#32) q
  IntOp.addi (IntOp.muli md k) t

theorem toBlock_apply (r : Fin 32) (l : Fin 128) : toBlock (ix2 r l) = laneSplit 4#32 32#32 (BitVec.ofNat 32 l.val) := by
  rw [← lane_apply r l]; rfl

theorem toByte_apply (r : Fin 8) (l : Fin 128) : toByte (ix2 r l) = laneSplit 16#32 8#32 (BitVec.ofNat 32 l.val) := by
  rw [← lane8_apply r l]; rfl

theorem block_lane : ∀ b : Fin 80, (wrapWord (laneSplit 4#32 32#32 (BitVec.ofNat 32 b.val))).toNat % 128 = 32 * (b.val % 4) + b.val / 4 := by
  decide +kernel

theorem byte_lane : ∀ l : Fin 128, (wrapWord (laneSplit 16#32 8#32 (BitVec.ofNat 32 l.val))).toNat % 128 = 8 * (l.val % 16) + l.val / 16 := by
  decide +kernel

theorem down_lane : ∀ (c : Fin 20) (l : Fin 128),
    (wrapWord (IntOp.addi (IntOp.andi (BitVec.ofNat 32 l.val) 4294967264#32) (BitVec.ofNat 32 c.val))).toNat % 128 = 32 * (l.val / 32) + c.val := by
  decide +kernel

/-! ### The steps at an index -/

theorem step_apply (k : BitVec 32) (a : FVec Ideal S32x128 .f32) (code : IVec S32x128 32) (i : S32x128.Idx) :
    step k a code i = stepK k (a i) (code i) := rfl

theorem search_apply (a : FVec Ideal S32x128 .f32) (i : S32x128.Idx) : search a i = searchK (a i) := by
  unfold search searchK
  simp only [step_apply]
  rfl

theorem aOf_apply (v : FVec Ideal S32x128 .f32) (i : S32x128.Idx) : aOf v i = scaleOf (v i) := rfl

theorem rmsOf_apply (v : FVec Ideal S32x128 .f32) (i : S32x128.Idx) : rmsOf v i = rmsK (v i) := rfl

theorem expo_at (ss : FVec Ideal S32x128 .f32) (i : S32x128.Idx) : expo ss i = expoK (ss i) := by
  have h : expo ss i = Scalar.select (Ideal.cmp .oeq (rmsOf ss i) (Ideal.ofBits .f32 0x00000000#32)) 0#32
      (IntOp.subi (search (aOf (rmsOf ss)) i) 127#32) := rfl
  rw [h, search_apply, aOf_apply, rmsOf_apply]
  rfl

theorem down_apply (e : IVec S32x128 32) (i : S32x128.Idx) : down e i = downK (e i) := rfl

theorem quantC_apply (v : FVec Ideal S32x128 .f32) (i : S32x128.Idx) : quantC v i = quantK (v i) := rfl

/-! ### The mask -/

/-- Whether a value lies in the format's range. -/
def insideB (v : EReal) : BitVec 1 := Ideal.cmp .ole (max v (-v)) (Ideal.ofBits .f32 0x40C00000#32)

/-- Eight flags in a byte, flag `u` at bit `u`. -/
def packed (b : Fin 8 → BitVec 1) : BitVec 8 := orAll (List.ofFn fun u : Fin 8 => (BitVec.setWidth 8 (b u)) <<< u.val)

/-- One lane's word of four rows' flags. -/
def wordOf (v : BitVec 32) (b : Fin 4 → BitVec 1) : BitVec 32 :=
  let wt := fun s : BitVec 32 => IntOp.shli .vector 1#32 (IntOp.addi (IntOp.andi v 7#32) s)
  IntOp.ori (IntOp.ori (IntOp.ori (IntOp.ori 0#32 (Scalar.select (b 0) (wt 0#32) 0#32)) (Scalar.select (b 1) (wt 8#32) 0#32))
    (Scalar.select (b 2) (wt 16#32) 0#32)) (Scalar.select (b 3) (wt 24#32) 0#32)

/-- Byte `v` of a word. -/
def byteAt (v : Nat) (z : BitVec 32) : BitVec 8 := BitVec.setWidth 8 (IntOp.andi (IntOp.shrsi .vector z (BitVec.ofNat 32 v)) 255#32)

theorem byteAt_eq (v : Fin 4) (z : BitVec 32) : byteAt (8 * v.val) z = z.extractLsb' (8 * v.val) 8 := by
  unfold byteAt IntOp.shrsi IntOp.andi
  have hv : (BitVec.ofNat 32 (8 * v.val)).toNat = 8 * v.val := by rw [BitVec.toNat_ofNat]; omega
  rw [if_pos (by rw [hv]; omega)]
  ext i hi
  have h255 : (255#32).getLsbD i = true := by
    interval_cases i <;> rfl
  simp only [BitVec.getElem_setWidth, BitVec.getLsbD_and, BitVec.getElem_extractLsb', h255, Bool.and_true]
  rw [BitVec.sshiftRight_eq', hv, BitVec.getLsbD_sshiftRight]
  have a1 : ¬ (32 ≤ i) := by omega
  have a2 : 8 * v.val + i < 32 := by omega
  simp [a1, a2]

theorem byteAt_orAll (v : Fin 4) (L : List (BitVec 32)) : byteAt (8 * v.val) (orAll L) = orAll (L.map (byteAt (8 * v.val))) := by
  induction L with
  | nil =>
    show byteAt (8 * v.val) 0#32 = 0#8
    rw [byteAt_eq]; simp
  | cons x L ih =>
    show byteAt (8 * v.val) (x ||| orAll L) = byteAt (8 * v.val) x ||| orAll (L.map (byteAt (8 * v.val)))
    rw [← ih, byteAt_eq, byteAt_eq, byteAt_eq, BitVec.extractLsb'_or]

theorem byte_word_dec : ∀ (v : Fin 4) (l : Fin 128) (b0 b1 b2 b3 : Fin 2),
    byteAt (8 * v.val) (wordOf (BitVec.ofNat 32 l.val) ![BitVec.ofNat 1 b0.val, BitVec.ofNat 1 b1.val, BitVec.ofNat 1 b2.val, BitVec.ofNat 1 b3.val])
      = (BitVec.setWidth 8 ((![BitVec.ofNat 1 b0.val, BitVec.ofNat 1 b1.val, BitVec.ofNat 1 b2.val, BitVec.ofNat 1 b3.val] : Fin 4 → BitVec 1) v)) <<< (l.val % 8) := by
  decide +kernel

theorem byte_word (v : Fin 4) (l : Fin 128) (b : Fin 4 → BitVec 1) :
    byteAt (8 * v.val) (wordOf (BitVec.ofNat 32 l.val) b) = (BitVec.setWidth 8 (b v)) <<< (l.val % 8) := by
  have h := byte_word_dec v l ⟨(b 0).toNat, (b 0).isLt⟩ ⟨(b 1).toNat, (b 1).isLt⟩ ⟨(b 2).toNat, (b 2).isLt⟩ ⟨(b 3).toNat, (b 3).isLt⟩
  simp only [BitVec.ofNat_toNat, BitVec.setWidth_eq] at h
  have e : (![b 0, b 1, b 2, b 3] : Fin 4 → BitVec 1) = b := by
    funext k; fin_cases k <;> rfl
  rw [e] at h
  exact h

end Cert.Quant.XTile

end
-- ==== Proof.QuantLane.lean ====
/-
  A row group's four results at an index, over the reals: scalar functions of the row's rotated values.
-/
module

public import proofs.«01_k».proof.Proof.QuantGather
public import Idealize.ShloMosaic.Lib.Pipeline.Value

@[expose] public section

set_option maxRecDepth 16384

noncomputable section

namespace Cert.Quant.XTile

open Idealize.ShloMosaic Idealize.ShloMosaic.Pointwise Cert.Quant Cert.Quant.Gen Cert.Quant.Scalar

/-! ### Scales, values and codes -/

/-- The rotated value at row `r`, chunk `c`, lane `l`, and the sum of squares of block `q` of chunk `c`. -/
def valueAt (raw : Nat → FVec Ideal S32x128 .f32) (r : Fin 32) (c : Nat) (l : Fin 128) : EReal := scaled (raw c) (ix2 r l)
def sumAt (raw : Nat → FVec Ideal S32x128 .f32) (r : Fin 32) (c : Nat) (q : Fin 4) : EReal :=
  (∑ u : Fin 32, valueAt raw r c ⟨32 * q.val + u.val, by omega⟩ * valueAt raw r c ⟨32 * q.val + u.val, by omega⟩ : EReal)

variable (raw : Nat → FVec Ideal S32x128 .f32)

attribute [local irreducible] expoK downK quantK sumSq expo

theorem expo_apply (r : Fin 32) (q : Fin 4) (c : Fin 20) :
    expo (sumSq raw) (ix2 r ⟨32 * q.val + c.val, by omega⟩) = expoK (sumAt raw r c.val q) := by
  rw [expo_at, sumSq_apply]
  rfl

theorem grpDown_apply (r : Fin 32) (q : Fin 4) (c : Fin 20) :
    grpDown raw (ix2 r ⟨32 * q.val + c.val, by omega⟩) = downK (expoK (sumAt raw r c.val q)) := by
  unfold grpDown
  rw [down_apply, expo_apply]

theorem downC_apply (r : Fin 32) (c : Fin 20) (l : Fin 128) :
    downC (grpDown raw) c.val (ix2 r l) = downK (expoK (sumAt raw r c.val ⟨l.val / 32, by omega⟩)) := by
  have h := take_apply (grpDown raw) (addi (andi lane (broadcast S32x128 4294967264#32)) (broadcast S32x128 (BitVec.ofNat 32 c.val))) r l
    ⟨32 * (l.val / 32) + c.val, by omega⟩ (by
      show (wrapWord (IntOp.addi (IntOp.andi (lane (ix2 r l)) 4294967264#32) (BitVec.ofNat 32 c.val))).toNat % 128 = _
      rw [lane_apply]
      exact down_lane c l)
  refine h.trans ?_
  exact grpDown_apply raw r ⟨l.val / 32, by omega⟩ c

/-- The value over its block's scale. -/
def overAt (r : Fin 32) (c : Nat) (l : Fin 128) : EReal :=
  valueAt raw r c l * Ideal.ofBits .f32 (downK (expoK (sumAt raw r c ⟨l.val / 32, by omega⟩)))

theorem valC_apply (r : Fin 32) (c : Fin 20) (l : Fin 128) : valC (grpDown raw) c.val (raw c.val) (ix2 r l) = overAt raw r c.val l := by
  have h : ∀ dn x, valC (F := Ideal) dn c.val x (ix2 r l) = scaled x (ix2 r l) * Ideal.ofBits .f32 (downC dn c.val (ix2 r l)) :=
    fun _ _ => rfl
  rw [h, downC_apply]
  rfl

theorem grpCode_apply (r : Fin 32) (c : Fin 20) (l : Fin 128) : grpCode raw c.val (ix2 r l) = quantK (overAt raw r c.val l) := by
  have h : ∀ v, codeC (F := Ideal) v (ix2 r l) = quantC v (ix2 r l) := fun _ => rfl
  unfold grpCode
  rw [h, quantC_apply, valC_apply]

theorem grpXq_apply (r : Fin 32) (c : Fin 20) (l : Fin 128) :
    grpXq raw c.val (ix2 r l)
      = quantK (overAt raw r c.val l) * Ideal.ofBits .f32 (upK (downK (expoK (sumAt raw r c.val ⟨l.val / 32, by omega⟩)))) := by
  have h : ∀ (v : FVec Ideal S32x128 .f32) (d : IVec S32x128 32),
      truncf .bf16 (mulf v (bitcastToFloat .f32 d)) bitsLt_bf16_f32 (ix2 r l) = v (ix2 r l) * Ideal.ofBits .f32 (d (ix2 r l)) := fun _ _ => rfl
  have h1 : ∀ a b : IVec S32x128 32, subi a b (ix2 r l) = IntOp.subi (a (ix2 r l)) (b (ix2 r l)) := fun _ _ => rfl
  have h2 : ∀ k : BitVec 32, broadcast S32x128 k (ix2 r l) = k := fun _ => rfl
  unfold grpXq xqC upK
  rw [h, h1, h2, quantC_apply, valC_apply, downC_apply]

theorem scaleBytes_apply (e : IVec S32x128 32) (r : Fin 32) (b : Fin 80) :
    scaleBytes e (ix2 r b) = byteOfExpo (e (ix2 r ⟨32 * (b.val % 4) + b.val / 4, by omega⟩)) := by
  have h : extractStridedSlice S32x80 ![0, 0] (scaleWord e) slices_S32x128_o0_0_S32x80 (ix2 r b)
      = scaleWord e (ix2 r ⟨b.val, by omega⟩) :=
    extractStridedSlice_apply _ _ _ _ _ fun a => by
      match a with
      | ⟨0, _⟩ => exact (Nat.zero_add _).symm
      | ⟨1, _⟩ => exact (Nat.zero_add _).symm
  refine (congrArg (BitVec.setWidth 8) h).trans ?_
  unfold scaleWord
  rw [take_apply _ _ r ⟨b.val, by omega⟩ ⟨32 * (b.val % 4) + b.val / 4, by omega⟩ (by rw [toBlock_apply]; exact block_lane b)]
  rfl

theorem grpScale_apply (r : Fin 32) (b : Fin 80) :
    grpScale raw (ix2 r b) = byteOfExpo (expoK (sumAt raw r (b.val / 4) ⟨b.val % 4, by omega⟩)) := by
  unfold grpScale
  rw [scaleBytes_apply]
  exact congrArg byteOfExpo (expo_apply raw r ⟨b.val % 4, by omega⟩ ⟨b.val / 4, by omega⟩)

end Cert.Quant.XTile

end
-- ==== Proof.QuantMask.lean ====
/-
  The flags of a row group packed into bytes.
-/
module

public import proofs.«01_k».proof.Proof.QuantLane
public import Idealize.ShloMosaic.Lib.Pipeline.Value

@[expose] public section

set_option maxRecDepth 16384

noncomputable section

namespace Cert.Quant.XTile

open Idealize.ShloMosaic Idealize.ShloMosaic.Pointwise Cert.Quant Cert.Quant.Gen Cert.Quant.Scalar

variable (raw : Nat → FVec Ideal S32x128 .f32)

attribute [local irreducible] expoK downK quantK sumSq expo valC overAt

/-- The four row groups of eight in a chunk's word. -/
theorem wordC_apply (m : IVec S32x128 1) (s : Fin 8) (l : Fin 128) :
    wordC m (ix2 s l) = wordOf (BitVec.ofNat 32 l.val) (fun v => m (ix2 ⟨8 * v.val + s.val, by omega⟩ l)) := by
  have sl : ∀ (o : Nat) (ho : o + 8 ≤ 32) (hs : S32x128.Slices ![o, 0] S8x128),
      extractStridedSlice S8x128 ![o, 0] m hs (ix2 s l) = m (ix2 ⟨o + s.val, by omega⟩ l) := fun o ho hs =>
    extractStridedSlice_apply _ _ _ _ _ fun a => by
      match a with
      | ⟨0, _⟩ => rfl
      | ⟨1, _⟩ => exact (Nat.zero_add _).symm
  have wt : ∀ k : BitVec 32, weight k (ix2 s l) = IntOp.shli .vector 1#32 (IntOp.addi (IntOp.andi (BitVec.ofNat 32 l.val) 7#32) k) := fun k => by
    rw [← lane8_apply s l]; rfl
  show IntOp.ori (IntOp.ori (IntOp.ori (IntOp.ori 0#32
      (Scalar.select (extractStridedSlice S8x128 ![0, 0] m slices_S32x128_o0_0_S8x128 (ix2 s l)) (weight 0#32 (ix2 s l)) 0#32))
      (Scalar.select (extractStridedSlice S8x128 ![8, 0] m slices_S32x128_o8_0_S8x128 (ix2 s l)) (weight 8#32 (ix2 s l)) 0#32))
      (Scalar.select (extractStridedSlice S8x128 ![16, 0] m slices_S32x128_o16_0_S8x128 (ix2 s l)) (weight 16#32 (ix2 s l)) 0#32))
      (Scalar.select (extractStridedSlice S8x128 ![24, 0] m slices_S32x128_o24_0_S8x128 (ix2 s l)) (weight 24#32 (ix2 s l)) 0#32) = _
  rw [sl 0 (by decide), sl 8 (by decide), sl 16 (by decide), sl 24 (by decide), wt, wt, wt, wt]
  rfl

/-- The rows of a vector of words. -/
theorem maskRows_apply (z : IVec S8x128 32) (r : Fin 32) (l : Fin 128) :
    BitVec.setWidth 8 (maskRows z (ix2 r l)) = byteAt (8 * (r.val / 8)) (z (ix2 ⟨r.val % 8, by omega⟩ l)) := by
  have h := concatenate_ofFn_apply (t := S32x128) (s₁ := S8x128) 0 (fun n : Fin 4 => byteOf z (BitVec.ofNat 32 (8 * n.val)))
    concatenates_S8x128_S8x128_S8x128_S8x128_S32x128_d0 rfl 8 rfl (ix2 r l) ⟨r.val / 8, by omega⟩ rfl (ix2 ⟨r.val % 8, by omega⟩ l) rfl
    (fun b hb => by
      match b with
      | ⟨0, _⟩ => exact absurd rfl hb
      | ⟨1, _⟩ => rfl)
  exact congrArg (BitVec.setWidth 8) h

/-- The bytes of eight chunks' words, and of four's. -/
theorem part_apply (w : Nat → IVec S8x128 32) (z : IVec S8x128 32) (r : Fin 32) (l : Fin 128)
    (hz : z (ix2 ⟨r.val % 8, by omega⟩ ⟨8 * (l.val % 16) + l.val / 16, by omega⟩)
      = orAll (List.ofFn fun u : Fin 8 => w (l.val / 16) (ix2 ⟨r.val % 8, by omega⟩ ⟨8 * (l.val % 16) + u.val, by omega⟩)))
    (m : Nat → IVec S32x128 1) (hw : w (l.val / 16) = wordC (m (l.val / 16))) :
    BitVec.setWidth 8 (maskRows (take8 z toByte) (ix2 r l)) = packed fun u => m (l.val / 16) (ix2 r ⟨8 * (l.val % 16) + u.val, by omega⟩) := by
  rw [maskRows_apply, take8_apply z toByte ⟨r.val % 8, by omega⟩ l ⟨8 * (l.val % 16) + l.val / 16, by omega⟩ (by rw [toByte_apply]; exact byte_lane l), hz]
  have e := byteAt_orAll ⟨r.val / 8, by omega⟩
    (List.ofFn fun u : Fin 8 => w (l.val / 16) (ix2 ⟨r.val % 8, by omega⟩ ⟨8 * (l.val % 16) + u.val, by omega⟩))
  refine e.trans ?_
  unfold packed
  rw [List.map_ofFn]
  refine congrArg (fun f : Fin 8 → BitVec 8 => orAll (List.ofFn f)) (funext fun u => ?_)
  show byteAt (8 * (r.val / 8)) (w (l.val / 16) (ix2 ⟨r.val % 8, _⟩ ⟨8 * (l.val % 16) + u.val, _⟩)) = _
  rw [hw, wordC_apply]
  refine (byte_word ⟨r.val / 8, by omega⟩ ⟨8 * (l.val % 16) + u.val, by omega⟩ _).trans ?_
  have e1 : (8 * (l.val % 16) + u.val) % 8 = u.val := by omega
  have e2 : (⟨8 * (r.val / 8) + r.val % 8, by omega⟩ : Fin 32) = r := Fin.ext (by show 8 * (r.val / 8) + r.val % 8 = r.val; omega)
  show BitVec.setWidth 8 (m (l.val / 16) (ix2 ⟨8 * (r.val / 8) + r.val % 8, _⟩ _)) <<< ((8 * (l.val % 16) + u.val) % 8) = _
  rw [e1, e2]

theorem maskBytes_apply (m : Nat → IVec S32x128 1) (r : Fin 32) (j : Fin 320) :
    maskBytes (fun c => wordC (m c)) (ix2 r j) = packed fun u => m (j.val / 16) (ix2 r ⟨8 * (j.val % 16) + u.val, by omega⟩) := by
  have hj := j.isLt
  have e : extractStridedSlice S32x320 ![0, 0]
      (concatenate S32x384 1 [⟨S32x128, maskRows (take8 (merged8 fun c => wordC (m c)) toByte)⟩,
        ⟨S32x128, maskRows (take8 (merged8 fun i => wordC (m (8 + i))) toByte)⟩,
        ⟨S32x128, maskRows (take8 (merged4 fun i => wordC (m (16 + i))) toByte)⟩] concatenates_S32x128_S32x128_S32x128_S32x384_d1)
      slices_S32x384_o0_0_S32x320 (ix2 r j)
      = concatenate S32x384 1 [⟨S32x128, maskRows (take8 (merged8 fun c => wordC (m c)) toByte)⟩,
        ⟨S32x128, maskRows (take8 (merged8 fun i => wordC (m (8 + i))) toByte)⟩,
        ⟨S32x128, maskRows (take8 (merged4 fun i => wordC (m (16 + i))) toByte)⟩] concatenates_S32x128_S32x128_S32x128_S32x384_d1
        (ix2 r ⟨j.val, by omega⟩) :=
    extractStridedSlice_apply _ _ _ _ _ fun a => by
      match a with
      | ⟨0, _⟩ => exact (Nat.zero_add _).symm
      | ⟨1, _⟩ => exact (Nat.zero_add _).symm
  have h := concatenate_ofFn_apply (t := S32x384) (s₁ := S32x128) 1
    (![maskRows (take8 (merged8 fun c => wordC (m c)) toByte), maskRows (take8 (merged8 fun i => wordC (m (8 + i))) toByte),
      maskRows (take8 (merged4 fun i => wordC (m (16 + i))) toByte)] : Fin 3 → IVec S32x128 32)
    concatenates_S32x128_S32x128_S32x128_S32x384_d1 rfl 128 rfl (ix2 r ⟨j.val, by omega⟩) ⟨j.val / 128, by omega⟩ rfl
    (ix2 r ⟨j.val % 128, by omega⟩) rfl
    (fun b hb => by
      match b with
      | ⟨0, _⟩ => rfl
      | ⟨1, _⟩ => exact absurd rfl hb)
  refine (congrArg (BitVec.setWidth 8) (e.trans h)).trans ?_
  have fin : ∀ (k : Nat) (hk : j.val / 16 = 8 * k + j.val % 128 / 16),
      (packed fun u => m (8 * k + j.val % 128 / 16) (ix2 r ⟨8 * (j.val % 128 % 16) + u.val, by omega⟩))
        = packed fun u => m (j.val / 16) (ix2 r ⟨8 * (j.val % 16) + u.val, by omega⟩) := fun k hk => by
    have e1 : j.val % 128 % 16 = j.val % 16 := by omega
    simp only [hk, e1]
  have h3 : j.val / 128 = 0 ∨ j.val / 128 = 1 ∨ j.val / 128 = 2 := by omega
  rcases h3 with h3 | h3 | h3
  · have e3 : (⟨j.val / 128, by omega⟩ : Fin 3) = 0 := Fin.ext h3
    rw [e3]
    refine (part_apply (fun c => wordC (m c)) (merged8 fun c => wordC (m c)) r ⟨j.val % 128, by omega⟩
      (merged8_apply _ _ ⟨j.val % 128 % 16, by omega⟩ ⟨j.val % 128 / 16, by omega⟩) m rfl).trans ?_
    refine Eq.trans ?_ (fin 0 (by omega))
    simp only [Nat.mul_zero, Nat.zero_add]
  · have e3 : (⟨j.val / 128, by omega⟩ : Fin 3) = 1 := Fin.ext h3
    rw [e3]
    refine (part_apply (fun i => wordC (m (8 + i))) (merged8 fun i => wordC (m (8 + i))) r ⟨j.val % 128, by omega⟩
      (merged8_apply _ _ ⟨j.val % 128 % 16, by omega⟩ ⟨j.val % 128 / 16, by omega⟩) (fun i => m (8 + i)) rfl).trans ?_
    exact fin 1 (by omega)
  · have e3 : (⟨j.val / 128, by omega⟩ : Fin 3) = 2 := Fin.ext h3
    rw [e3]
    refine (part_apply (fun i => wordC (m (16 + i))) (merged4 fun i => wordC (m (16 + i))) r ⟨j.val % 128, by omega⟩
      (merged4_apply _ _ ⟨j.val % 128 % 16, by omega⟩ ⟨j.val % 128 / 16, by omega⟩) (fun i => m (16 + i)) rfl).trans ?_
    exact fin 2 (by omega)

theorem grpMask_apply (r : Fin 32) (j : Fin 320) :
    grpMask raw (ix2 r j) = packed fun u => insideB (overAt raw r (j.val / 16) ⟨8 * (j.val % 16) + u.val, by omega⟩) := by
  unfold grpMask
  rw [maskBytes_apply]
  refine congrArg packed (funext fun u => ?_)
  have h := valC_apply raw r ⟨j.val / 16, by omega⟩ ⟨8 * (j.val % 16) + u.val, by omega⟩
  have e : ∀ (v : FVec Ideal S32x128 .f32) i, insideC v i = insideB (v i) := fun _ _ => rfl
  refine (e _ _).trans ?_
  exact congrArg insideB h

end Cert.Quant.XTile

end
-- ==== Proof.QuantRow.lean ====
/-
  The quantiser on one row of 2560 values, over the reals: the kernel's results and the reference's, as scalar functions
  of the row, and their equality where every block of 32 holds a scale of the format.
-/
module

public import proofs.«01_k».proof.Proof.QuantMask

@[expose] public section

set_option maxRecDepth 16384

noncomputable section

namespace Cert.Quant.Row

open Idealize.ShloMosaic Cert.Quant.Scalar Cert.Quant.XTile

/-- The sign of the rotation at row `j`, column `i` of a block: as a word, and as a number. -/
def signWord (j i : Fin 32) : BitVec 32 :=
  IntOp.subi 1#32 (IntOp.muli 2#32 (IntOp.andi (IntOp.ctpop (IntOp.andi (BitVec.ofNat 32 j.val) (BitVec.ofNat 32 i.val))) 1#32))
def sgn (j i : Fin 32) : EReal := (((signWord j i).toInt : ℝ) : EReal)

theorem sign_cases : ∀ j i : Fin 32, signWord j i = 1#32 ∨ signWord j i = 4294967295#32 := by
  decide +kernel

/-- The rotated value at a column, and a block's sum of squares. -/
def rotv (x : Fin 2560 → EReal) (C : Fin 2560) : EReal :=
  (∑ j : Fin 32, x ⟨32 * (C.val / 32) + j.val, by omega⟩ * sgn j ⟨C.val % 32, by omega⟩ : EReal) * Ideal.ofBits .f32 0x3E3504F3#32
def sumB (x : Fin 2560 → EReal) (b : Fin 80) : EReal :=
  (∑ u : Fin 32, rotv x ⟨32 * b.val + u.val, by omega⟩ * rotv x ⟨32 * b.val + u.val, by omega⟩ : EReal)

/-- A column's block. -/
def blk (C : Fin 2560) : Fin 80 := ⟨C.val / 32, by omega⟩

/-- The kernel's value over its scale, code, rescaled value, scale byte and mask byte. -/
def overK (x : Fin 2560 → EReal) (C : Fin 2560) : EReal := rotv x C * Ideal.ofBits .f32 (downK (expoK (sumB x (blk C))))
def codeK (x : Fin 2560 → EReal) (C : Fin 2560) : EReal := quantK (overK x C)
def xqK (x : Fin 2560 → EReal) (C : Fin 2560) : EReal := codeK x C * Ideal.ofBits .f32 (upK (downK (expoK (sumB x (blk C)))))
def scaleK (x : Fin 2560 → EReal) (b : Fin 80) : BitVec 8 := byteOfExpo (expoK (sumB x b))
def maskK (x : Fin 2560 → EReal) (j : Fin 320) : BitVec 8 := packed fun u => insideB (overK x ⟨8 * j.val + u.val, by omega⟩)

/-- The reference's. -/
def overR (x : Fin 2560 → EReal) (C : Fin 2560) : EReal := rotv x C * downR (expoR (sumB x (blk C)))
def codeR (x : Fin 2560 → EReal) (C : Fin 2560) : EReal := quantR (overR x C)
def xqR (x : Fin 2560 → EReal) (C : Fin 2560) : EReal := codeR x C * upR (expoR (sumB x (blk C)))
def scaleR (x : Fin 2560 → EReal) (b : Fin 80) : BitVec 8 := byteOfExpo (expoR (sumB x b))
def maskR (x : Fin 2560 → EReal) (j : Fin 320) : BitVec 8 := packed fun u => insideB (overR x ⟨8 * j.val + u.val, by omega⟩)

variable {x : Fin 2560 → EReal} (h : ∀ b, Good (sumB x b))

include h

theorem over_eq (C : Fin 2560) : overK x C = overR x C := congrArg (rotv x C * ·) (down_eq (h _))
theorem code_eq (C : Fin 2560) : codeK x C = codeR x C := by
  unfold codeK codeR
  rw [over_eq h, quant_eq]
theorem xq_eq (C : Fin 2560) : xqK x C = xqR x C := by
  unfold xqK xqR
  rw [code_eq h, up_eq (h _)]
theorem scale_eq (b : Fin 80) : scaleK x b = scaleR x b := byte_eq (h b)
theorem mask_eq (j : Fin 320) : maskK x j = maskR x j :=
  congrArg packed (funext fun u => congrArg insideB (over_eq h _))

end Cert.Quant.Row

end
-- ==== Proof.QuantTileValue.lean ====
/-
  The quantising tile over the reals: each of its four outputs, row by row, is the row's function.
-/
module

public import proofs.«01_k».proof.Proof.QuantTile
public import proofs.«01_k».proof.Proof.QuantRow
public import Idealize.ShloMosaic.Lib.Pointwise

@[expose] public section

set_option maxRecDepth 16384

noncomputable section

namespace Cert.Quant.XTile

open Idealize.ShloMosaic Idealize.ShloMosaic.Pointwise Cert.Quant Cert.Quant.Gen Cert.Quant.Scalar Cert.Quant.Row

/-- The matrix of the rotation: a block of 32's signs along the diagonal, zero elsewhere. -/
def Diagonal (x1 : Vec Ideal S256x256 .bf16) : Prop :=
  ∀ k m : Fin 256, (x1 (ix2 k m) : EReal) = if k.val / 32 = m.val / 32 then sgn ⟨k.val % 32, by omega⟩ ⟨m.val % 32, by omega⟩ else 0

theorem rotC_apply (x h : FVec Ideal S256x256 .bf16) (i : S256x256.Idx) :
    rotC x h i = (∑ k : Fin 256, x (ix2 (i 0) k) * h (ix2 k (i 1)) : EReal) := by
  pointwise [rotC]

/-- The rotated tile at an index, the whole sum and then the one block's. -/
def rotFn (x0 : Vec Ideal S256x2560 .bf16) (x1 : Vec Ideal S256x256 .bf16) : Vec Ideal S256x2560 .f32 := fun y =>
  have h : (y 1).val < 2560 := (y 1).isLt
  (∑ k : Fin 256, (x0 (ix2 (y 0) ⟨256 * ((y 1).val / 256) + k.val, by omega⟩) : EReal) * x1 (ix2 k ⟨(y 1).val % 256, by omega⟩) : EReal)

theorem rot_eq (x0 : Vec Ideal S256x2560 .bf16) (x1 : Vec Ideal S256x256 .bf16) : rot x0 x1 = rotFn x0 x1 := by
  funext y
  refine View.canon_apply_of_pieces (rotFn x0 x1) (rotL x0 x1) ?_ y (rot_cover x0 x1 y)
  intro p hp
  unfold rotL at hp
  rw [List.mem_ofFn] at hp
  obtain ⟨k', rfl⟩ := hp
  generalize (⟨9 - k'.val, by omega⟩ : Fin 10) = k
  intro x
  have hk := k.isLt
  have hx0 : (x 0).val < 256 := (x 0).isLt
  have hx1 : (x 1).val < 256 := (x 1).isLt
  refine (rotC_apply _ _ x).trans ?_
  refine Finset.sum_congr (M := EReal) rfl fun j _ => ?_
  refine congrArg₂ (fun a b : EReal => a * b) (congrArg x0 ?_) (congrArg x1 ?_)
  · funext a
    match a with
    | ⟨0, _⟩ => rfl
    | ⟨1, _⟩ =>
      apply Fin.ext
      show 256 * k.val + 1 * j.val = 256 * ((256 * k.val + 1 * (x 1).val) / 256) + j.val
      omega
  · funext a
    match a with
    | ⟨0, _⟩ => exact Fin.ext (by show 0 + 1 * j.val = j.val; omega)
    | ⟨1, _⟩ => exact Fin.ext (by show 0 + 1 * (x 1).val = (256 * k.val + 1 * (x 1).val) % 256; omega)

/-- A row of a tile. -/
def rowOf (x0 : Vec Ideal S256x2560 .bf16) (p : Fin 256) : Fin 2560 → EReal := fun C => x0 (ix2 p C)

theorem rot_apply {x0 : Vec Ideal S256x2560 .bf16} {x1 : Vec Ideal S256x256 .bf16} (h : Diagonal x1) (p : Fin 256) (C : Fin 2560) :
    (rot x0 x1 (ix2 p C) : EReal) * Ideal.ofBits .f32 0x3E3504F3#32 = rotv (rowOf x0 p) C := by
  rw [rot_eq]
  refine congrArg (fun v : EReal => v * Ideal.ofBits .f32 0x3E3504F3#32) ?_
  have hC := C.isLt
  symm
  refine Fintype.sum_of_injective (M := EReal) (fun j : Fin 32 => (⟨32 * (C.val % 256 / 32) + j.val, by omega⟩ : Fin 256))
    (fun a b hab => Fin.ext (by have := congrArg Fin.val hab; dsimp only at this; omega)) _ _ (fun k hk => ?_) (fun j => ?_)
  · have hne : ¬ (k.val / 32 = C.val % 256 / 32) := fun e => hk ⟨⟨k.val % 32, by omega⟩, Fin.ext (by dsimp only; omega)⟩
    have e0 := h k ⟨C.val % 256, by omega⟩
    rw [if_neg hne] at e0
    exact (congrArg (fun v : EReal => (x0 (ix2 p ⟨256 * (C.val / 256) + k.val, by omega⟩) : EReal) * v) e0).trans (mul_zero _)
  · have e0 := h ⟨32 * (C.val % 256 / 32) + j.val, by omega⟩ ⟨C.val % 256, by omega⟩
    rw [if_pos (by dsimp only; omega)] at e0
    refine congrArg₂ (fun a b : EReal => a * b) (congrArg x0 ?_) (Eq.trans ?_ e0.symm)
    · refine congrArg (ix2 p) (Fin.ext ?_)
      show 32 * (C.val / 32) + j.val = 256 * (C.val / 256) + (32 * (C.val % 256 / 32) + j.val)
      omega
    · refine congrArg₂ sgn (Fin.ext ?_) (Fin.ext ?_)
      · dsimp only; omega
      · dsimp only; omega

/-! ### The chunks -/

section Chunks

variable {x0 : Vec Ideal S256x2560 .bf16} {x1 : Vec Ideal S256x256 .bf16} (h : Diagonal x1) (g : Fin 8) (r : Fin 32) (c : Fin 20)

/-- A row group's row in the tile. -/
def rowIn (g : Fin 8) (r : Fin 32) : Fin 256 := ⟨32 * g.val + r.val, by omega⟩

include h

theorem valueAt_eq (l : Fin 128) :
    valueAt (rawOf (chunkOf x0 x1) g) r c.val l = rotv (rowOf x0 (rowIn g r)) ⟨128 * c.val + l.val, by omega⟩ := by
  rw [← rot_apply h]
  have hc : (⟨c.val % 20, Nat.mod_lt _ (by decide)⟩ : Fin 20) = c := Fin.ext (Nat.mod_eq_of_lt c.isLt)
  have e : rawOf (chunkOf x0 x1) g c.val = chunkOf x0 x1 g c := congrArg (chunkOf x0 x1 g) hc
  unfold valueAt
  rw [e]
  refine congrArg (fun v : EReal => v * Ideal.ofBits .f32 0x3E3504F3#32) ?_
  refine congrArg (rot x0 x1) ?_
  funext a
  match a with
  | ⟨0, _⟩ => exact Fin.ext (by show 32 * g.val + 1 * r.val = 32 * g.val + r.val; omega)
  | ⟨1, _⟩ => exact Fin.ext (by show 128 * c.val + 1 * l.val = 128 * c.val + l.val; omega)

theorem sumAt_eq (q : Fin 4) :
    sumAt (rawOf (chunkOf x0 x1) g) r c.val q = sumB (rowOf x0 (rowIn g r)) ⟨4 * c.val + q.val, by omega⟩ := by
  unfold sumAt sumB
  refine Finset.sum_congr (M := EReal) rfl fun u _ => ?_
  have e := valueAt_eq (x0 := x0) h g r c ⟨32 * q.val + u.val, by omega⟩
  have e2 : (⟨128 * c.val + (32 * q.val + u.val), by omega⟩ : Fin 2560) = ⟨32 * (4 * c.val + q.val) + u.val, by omega⟩ :=
    Fin.ext (by dsimp only; omega)
  rw [e]
  exact congrArg (fun C => rotv (rowOf x0 (rowIn g r)) C * rotv (rowOf x0 (rowIn g r)) C) e2

theorem sumAt_lane (l : Fin 128) :
    sumAt (rawOf (chunkOf x0 x1) g) r c.val ⟨l.val / 32, by omega⟩ = sumB (rowOf x0 (rowIn g r)) (blk ⟨128 * c.val + l.val, by omega⟩) :=
  (sumAt_eq h g r c _).trans (congrArg (sumB _) (Fin.ext (by show 4 * c.val + l.val / 32 = (128 * c.val + l.val) / 32; omega)))

theorem overAt_eq (l : Fin 128) :
    overAt (rawOf (chunkOf x0 x1) g) r c.val l = overK (rowOf x0 (rowIn g r)) ⟨128 * c.val + l.val, by omega⟩ := by
  unfold overAt overK
  rw [valueAt_eq h, sumAt_lane h]

end Chunks

/-! ### The four outputs -/

def tileX (x0 : Vec Ideal S256x2560 .bf16) : Vec Ideal S256x2560 .bf16 := fun y => xqK (rowOf x0 (y 0)) (y 1)
def tileC (x0 : Vec Ideal S256x2560 .bf16) : Vec Ideal S256x2560 .fp8e4m3 := fun y => codeK (rowOf x0 (y 0)) (y 1)
def tileS (x0 : Vec Ideal S256x2560 .bf16) : Vec Ideal S256x80 .i8 := fun y => scaleK (rowOf x0 (y 0)) (y 1)
def tileK (x0 : Vec Ideal S256x2560 .bf16) : Vec Ideal S256x320 .i8 := fun y => maskK (rowOf x0 (y 0)) (y 1)

variable {x0 : Vec Ideal S256x2560 .bf16} {x1 : Vec Ideal S256x256 .bf16} (h : Diagonal x1)

theorem embW (g : Fin 8) (c : Fin 20) (r : Fin 32) (l : Fin 128) :
    (rectW g c).emb (ix2 r l) = ix2 (rowIn g r) ⟨128 * c.val + l.val, by omega⟩ := by
  funext a
  match a with
  | ⟨0, _⟩ => exact Fin.ext (by show 32 * g.val + 1 * r.val = 32 * g.val + r.val; omega)
  | ⟨1, _⟩ => exact Fin.ext (by show 128 * c.val + 1 * l.val = 128 * c.val + l.val; omega)

theorem embS (g : Fin 8) (r : Fin 32) (b : Fin 80) : (rectS g).emb (ix2 r b) = ix2 (rowIn g r) b := by
  funext a
  match a with
  | ⟨0, _⟩ => exact Fin.ext (by show 32 * g.val + 1 * r.val = 32 * g.val + r.val; omega)
  | ⟨1, _⟩ => exact Fin.ext (by show 0 + 1 * b.val = b.val; omega)

theorem embK (g : Fin 8) (r : Fin 32) (j : Fin 320) : (rectK g).emb (ix2 r j) = ix2 (rowIn g r) j := by
  funext a
  match a with
  | ⟨0, _⟩ => exact Fin.ext (by show 32 * g.val + 1 * r.val = 32 * g.val + r.val; omega)
  | ⟨1, _⟩ => exact Fin.ext (by show 0 + 1 * j.val = j.val; omega)

attribute [local irreducible] expoK downK upK quantK byteOfExpo packed insideB rotv sumB grpXq grpCode grpScale grpMask overAt sumAt chunkOf overK

include h

theorem outX_eq : outX x0 x1 = tileX x0 := by
  funext y
  refine View.canon_apply_of_pieces (tileX x0) _ ?_ y (coverX _ y)
  intro p hp
  obtain ⟨g, c, rfl⟩ := of_mem_byChunk hp
  intro x
  obtain ⟨r, l, rfl⟩ : ∃ (r : Fin 32) (l : Fin 128), x = ix2 r l := ⟨x 0, x 1, by funext a; match a with | ⟨0, _⟩ => rfl | ⟨1, _⟩ => rfl⟩
  refine Eq.trans ?_ (congrArg (tileX x0) (embW g c r l)).symm
  have e := grpXq_apply (rawOf (chunkOf x0 x1) g) r c l
  rw [overAt_eq h, sumAt_lane h] at e
  exact e

theorem outC_eq : outC x0 x1 = tileC x0 := by
  funext y
  refine View.canon_apply_of_pieces (tileC x0) _ ?_ y (coverC _ y)
  intro p hp
  obtain ⟨g, c, rfl⟩ := of_mem_byChunk hp
  intro x
  obtain ⟨r, l, rfl⟩ : ∃ (r : Fin 32) (l : Fin 128), x = ix2 r l := ⟨x 0, x 1, by funext a; match a with | ⟨0, _⟩ => rfl | ⟨1, _⟩ => rfl⟩
  refine (grpCode_apply _ r c l).trans ?_
  rw [overAt_eq h]
  exact (congrArg (tileC x0) (embW g c r l)).symm

theorem outS_eq : outS x0 x1 = tileS x0 := by
  funext y
  refine View.canon_apply_of_pieces (tileS x0) _ ?_ y (coverS _ y)
  intro p hp
  obtain ⟨g, rfl⟩ := of_mem_byGroup hp
  intro x
  obtain ⟨r, b, rfl⟩ : ∃ (r : Fin 32) (b : Fin 80), x = ix2 r b := ⟨x 0, x 1, by funext a; match a with | ⟨0, _⟩ => rfl | ⟨1, _⟩ => rfl⟩
  refine (grpScale_apply _ r b).trans ?_
  have e := sumAt_eq (x0 := x0) h g r ⟨b.val / 4, by omega⟩ ⟨b.val % 4, by omega⟩
  have e2 : (⟨4 * (b.val / 4) + b.val % 4, by omega⟩ : Fin 80) = b := Fin.ext (by dsimp only; omega)
  refine Eq.trans ?_ (congrArg (tileS x0) (embS g r b)).symm
  refine congrArg (fun s => byteOfExpo (expoK s)) (e.trans ?_)
  exact congrArg (sumB (rowOf x0 (rowIn g r))) e2

theorem outK_eq : outK x0 x1 = tileK x0 := by
  funext y
  refine View.canon_apply_of_pieces (tileK x0) _ ?_ y (coverK _ y)
  intro p hp
  obtain ⟨g, rfl⟩ := of_mem_byGroup hp
  intro x
  obtain ⟨r, j, rfl⟩ : ∃ (r : Fin 32) (j : Fin 320), x = ix2 r j := ⟨x 0, x 1, by funext a; match a with | ⟨0, _⟩ => rfl | ⟨1, _⟩ => rfl⟩
  refine (grpMask_apply _ r j).trans ?_
  refine Eq.trans ?_ (congrArg (tileK x0) (embK g r j)).symm
  refine congrArg packed (funext fun u => congrArg insideB ?_)
  have e := overAt_eq (x0 := x0) h g r ⟨j.val / 16, by omega⟩ ⟨8 * (j.val % 16) + u.val, by omega⟩
  refine e.trans ?_
  exact congrArg (overK (rowOf x0 (rowIn g r)))
    (Fin.ext (by show 128 * (j.val / 16) + (8 * (j.val % 16) + u.val) = 8 * j.val + u.val; omega))

end Cert.Quant.XTile

end
-- ==== Proof.QuantBody.lean ====
/-
  The quantising call, one step of its grid: the body takes the two input blocks to the four output blocks of QuantTile.
-/
module

public import proofs.«01_k».proof.Proof.QuantTile
public import proofs.«01_k».proof.Proof.Gen.Quant.Frame.Runs

@[expose] public section

set_option maxRecDepth 16384

noncomputable section

namespace Cert.Quant.Hand

open Cert.Quant.Gen Cert.Quant.XTile
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 6928000 in
/-- The body on whole staging memrefs: from the inputs' at read contents and the outputs' and the scratch at anything to
    the inputs' as they were, each output's at its function of the inputs, and the scratch at some contents. -/
theorem sound_kernel (c : Dev nD) (i : grid0.Coords) (arg1 : Memref sig .tc .vmem S256x2560 .bf16) (harg1 : arg1.IsWhole) (arg2 : Memref sig .tc .vmem S256x256 .bf16) (harg2 : arg2.IsWhole) (arg3 : Memref sig .tc .vmem S256x2560 .bf16) (harg3 : arg3.IsWhole) (arg4 : Memref sig .tc .vmem S256x2560 .fp8e4m3) (harg4 : arg4.IsWhole) (arg5 : Memref sig .tc .vmem S256x80 .i8) (harg5 : arg5.IsWhole) (arg6 : Memref sig .tc .vmem S256x320 .i8) (harg6 : arg6.IsWhole) (arg7 : Memref sig .tc .vmem S256x2560 .f32) (harg7 : arg7.IsWhole)
    (x0 : Vec F S256x2560 .bf16) (x1 : Vec F S256x256 .bf16) :
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare (outX x0 x1) ∗ owns (c : Thread nD τ) arg4 fullShare (outC x0 x1) ∗ owns (c : Thread nD τ) arg5 fullShare (outS x0 x1) ∗ owns (c : Thread nD τ) arg6 fullShare (outK x0 x1) ∗ (∃ d, owns (c : Thread nD τ) arg7 fullShare d)) -∗ K ⟨⟩))
          ⊢ wp frame (wpE (defs₀ (F := F)) Variants.none c none) E (cc0_x_quant i arg1 harg1 arg2 harg2 arg3 harg3 arg4 harg4 arg5 harg5 arg6 harg6 arg7 harg7) K := by
    intro E K
    simp only [cc0_x_quant_eq_skeleton]; unfold cc0_x_quant_skel
    simp only [k0_part384_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part385_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part386_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part387_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part388_eq_skeleton, k0_part241_eq_skeleton, k0_part242_eq_skeleton, k0_part243_eq_skeleton, k0_part244_eq_skeleton, k0_part245_eq_skeleton, k0_part246_eq_skeleton, k0_part247_eq_skeleton, k0_part248_eq_skeleton, k0_part249_eq_skeleton, k0_part250_eq_skeleton, k0_part251_eq_skeleton, k0_part252_eq_skeleton, k0_part253_eq_skeleton, k0_part254_eq_skeleton, k0_part255_eq_skeleton, k0_part256_eq_skeleton, k0_part257_eq_skeleton, k0_part258_eq_skeleton, k0_part259_eq_skeleton, k0_part260_eq_skeleton, k0_part261_eq_skeleton, k0_part262_eq_skeleton, k0_part263_eq_skeleton, k0_part264_eq_skeleton, k0_part265_eq_skeleton, k0_part266_eq_skeleton, k0_part267_eq_skeleton, k0_part268_eq_skeleton, k0_part269_eq_skeleton, k0_part270_eq_skeleton, k0_part271_eq_skeleton, k0_part272_eq_skeleton, k0_part273_eq_skeleton, k0_part274_eq_skeleton, k0_part275_eq_skeleton, k0_part276_eq_skeleton, k0_part277_eq_skeleton, k0_part278_eq_skeleton, k0_part279_eq_skeleton, k0_part280_eq_skeleton, k0_part281_eq_skeleton, k0_part282_eq_skeleton, k0_part283_eq_skeleton, k0_part284_eq_skeleton, k0_part285_eq_skeleton, k0_part286_eq_skeleton, k0_part287_eq_skeleton, k0_part288_eq_skeleton, k0_part289_eq_skeleton, k0_part290_eq_skeleton, k0_part291_eq_skeleton, k0_part292_eq_skeleton, k0_part293_eq_skeleton, k0_part294_eq_skeleton, k0_part295_eq_skeleton, k0_part296_eq_skeleton, k0_part297_eq_skeleton, k0_part298_eq_skeleton, k0_part299_eq_skeleton, k0_part300_eq_skeleton, k0_part389_eq_skeleton, k0_part301_eq_skeleton, k0_part302_eq_skeleton, k0_part303_eq_skeleton, k0_part304_eq_skeleton, k0_part305_eq_skeleton, k0_part306_eq_skeleton, k0_part307_eq_skeleton, k0_part308_eq_skeleton, k0_part309_eq_skeleton, k0_part310_eq_skeleton, k0_part311_eq_skeleton, k0_part312_eq_skeleton, k0_part313_eq_skeleton, k0_part314_eq_skeleton, k0_part315_eq_skeleton, k0_part316_eq_skeleton, k0_part317_eq_skeleton, k0_part318_eq_skeleton, k0_part319_eq_skeleton, k0_part320_eq_skeleton, k0_part321_eq_skeleton, k0_part322_eq_skeleton, k0_part323_eq_skeleton, k0_part324_eq_skeleton, k0_part325_eq_skeleton, k0_part326_eq_skeleton, k0_part327_eq_skeleton, k0_part328_eq_skeleton, k0_part329_eq_skeleton, k0_part330_eq_skeleton, k0_part331_eq_skeleton, k0_part332_eq_skeleton, k0_part333_eq_skeleton, k0_part334_eq_skeleton, k0_part335_eq_skeleton, k0_part336_eq_skeleton, k0_part337_eq_skeleton, k0_part338_eq_skeleton, k0_part339_eq_skeleton, k0_part340_eq_skeleton, k0_part341_eq_skeleton, k0_part342_eq_skeleton, k0_part343_eq_skeleton, k0_part344_eq_skeleton, k0_part345_eq_skeleton, k0_part346_eq_skeleton, k0_part347_eq_skeleton, k0_part348_eq_skeleton, k0_part349_eq_skeleton, k0_part350_eq_skeleton, k0_part351_eq_skeleton, k0_part352_eq_skeleton, k0_part353_eq_skeleton, k0_part354_eq_skeleton, k0_part355_eq_skeleton, k0_part356_eq_skeleton, k0_part357_eq_skeleton, k0_part358_eq_skeleton, k0_part359_eq_skeleton, k0_part360_eq_skeleton, k0_part390_eq_skeleton, k0_part361_eq_skeleton, k0_part362_eq_skeleton, k0_part363_eq_skeleton, k0_part364_eq_skeleton, k0_part365_eq_skeleton, k0_part366_eq_skeleton, k0_part367_eq_skeleton, k0_part368_eq_skeleton, k0_part369_eq_skeleton, k0_part370_eq_skeleton, k0_part371_eq_skeleton, k0_part372_eq_skeleton, k0_part373_eq_skeleton, k0_part374_eq_skeleton, k0_part375_eq_skeleton, k0_part376_eq_skeleton, k0_part377_eq_skeleton, k0_part378_eq_skeleton, k0_part379_eq_skeleton, k0_part380_eq_skeleton, k0_part381_eq_skeleton, k0_part382_eq_skeleton, k0_part383_eq_skeleton]
    unfold owns
    iintro ⟨⟨%f0, %hf0, H0⟩, ⟨%f1, %hf1, H1⟩, ⟨%d2, %f2, -, H2⟩, ⟨%d3, %f3, -, H3⟩, ⟨%d4, %f4, -, H4⟩, ⟨%d5, %f5, -, H5⟩, ⟨%ds0, %fs0, -, HS0⟩, Hk⟩
    subst hf0 hf1
    sl_exec
    sl_step
    iapply Hk
    isplitl [H0]
    · iexists f0; isplitr; · ipureintro; rfl
      iexact H0
    isplitl [H1]
    · iexists f1; isplitr; · ipureintro; rfl
      iexact H1
    isplitl [H2]
    · iexists _; isplitr; swap; · iexact H2
      ipureintro
      refine (read_writes_of_eq _ f2 _ (piecesX (chunkVia arg7.view (View.read (Elt F) _ f0) (View.read (Elt F) _ f1))) ?_ (coverX _)).trans
        (congrArg (fun v => View.canon (piecesX v)) (chunkVia_eq _ _ _))
      sl_kernel_rfl
    isplitl [H3]
    · iexists _; isplitr; swap; · iexact H3
      ipureintro
      refine (read_writes_of_eq _ f3 _ (piecesC (chunkVia arg7.view (View.read (Elt F) _ f0) (View.read (Elt F) _ f1))) ?_ (coverC _)).trans
        (congrArg (fun v => View.canon (piecesC v)) (chunkVia_eq _ _ _))
      sl_kernel_rfl
    isplitl [H4]
    · iexists _; isplitr; swap; · iexact H4
      ipureintro
      refine (read_writes_of_eq _ f4 _ (piecesS (chunkVia arg7.view (View.read (Elt F) _ f0) (View.read (Elt F) _ f1))) ?_ (coverS _)).trans
        (congrArg (fun v => View.canon (piecesS v)) (chunkVia_eq _ _ _))
      sl_kernel_rfl
    isplitl [H5]
    · iexists _; isplitr; swap; · iexact H5
      ipureintro
      refine (read_writes_of_eq _ f5 _ (piecesK (chunkVia arg7.view (View.read (Elt F) _ f0) (View.read (Elt F) _ f1))) ?_ (coverK _)).trans
        (congrArg (fun v => View.canon (piecesK v)) (chunkVia_eq _ _ _))
      sl_kernel_rfl
    iexists _, _; isplitr; swap; · iexact HS0
    ipureintro; rfl

end Cert.Quant.Hand

end
-- ==== Proof.QuantFrame.lean ====
/-
  The quantising call as a whole: the proof data with the four outputs at their functions of the input blocks, the body's
  obligation, the launch and the frame.
-/
module

public import proofs.«01_k».proof.Proof.QuantBody
public import Idealize.ShloMosaic.Lib.Claim

@[expose] public section

set_option maxRecDepth 16384

noncomputable section

namespace Cert.Quant.Hand

open Cert.Quant.Gen Cert.Quant.XTile
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The proof data: the inputs' buffers at their blocks, the outputs' at what the body makes of them. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outX (iblk m c 0 t) (iblk m c 1 t)
    | ⟨3, _⟩ => outC (iblk m c 0 t) (iblk m c 1 t)
    | ⟨4, _⟩ => outS (iblk m c 0 t) (iblk m c 1 t)
    | ⟨5, _⟩ => outK (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = outX (iblk m c 0 t) (iblk m c 1 t) := by dsimp only [dats]
theorem after0_3 (c : Dev nD) (t : Fin cfg0.N) : (dats m 0 c).after 3 t = outC (iblk m c 0 t) (iblk m c 1 t) := by dsimp only [dats]
theorem after0_4 (c : Dev nD) (t : Fin cfg0.N) : (dats m 0 c).after 4 t = outS (iblk m c 0 t) (iblk m c 1 t) := by dsimp only [dats]
theorem after0_5 (c : Dev nD) (t : Fin cfg0.N) : (dats m 0 c).after 5 t = outK (iblk m c 0 t) (iblk m c 1 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  rw [show (dats m 0 c).Φ t.castSucc = Pipeline.ΦA spec0 c from rfl, PhiA0_eq]
  iintro ⟨⟨HS0, Hg⟩, Ho, ⟨%d0, H0⟩, ⟨%d1, H1⟩, ⟨%d2, H2⟩, ⟨%d3, H3⟩, ⟨%d4, H4⟩, ⟨%d5, H5⟩⟩
  iapply ((sound_kernel c (grid0.coords t) _ _ _ _ _ _ _ _ _ _ _ _ _ _ (iblk m c 0 t) (iblk m c 1 t)) Set.univ _)
  isplitl [H0]; · iexact H0
  isplitl [H1]; · iexact H1
  isplitl [H2]; · iexists _; iexact H2
  isplitl [H3]; · iexists _; iexact H3
  isplitl [H4]; · iexists _; iexact H4
  isplitl [H5]; · iexists _; iexact H5
  isplitl [HS0]; · iexact HS0
  iintro ⟨H0, H1, H2, H3, H4, H5, HS0⟩
  isplitl [HS0 Hg]
  · isplitl [HS0]
    · iexact HS0
    iexact Hg
  isplitl [Ho]; · iexact Ho
  isplitl [H0]; · iexact H0
  isplitl [H1]; · iexact H1
  isplitl [H2]; · iexact H2
  isplitl [H3]; · iexact H3
  isplitl [H4]; · iexact H4
  iexact H5

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

-- `θ_run_frame`'s implicit arguments are found by unifying its conclusion with this one, which takes unfolding plain
-- definitions in a metavariable's type
set_option backward.isDefEq.respectTransparency.types false in
set_option maxHeartbeats 800000 in
/-- The launch: every array of the pipeline ends at what the proof data say, every other buffer as it was, every counter
    at zero. -/
theorem run_main : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- Every run: the argument as it was, and the four results at the proof data's arrays. -/
theorem run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_v1_0) = (dats m 0 c).arrAt 2 cfg0.N
      ∧ r.2.mem ((c.tc : Thread nD τ).loc main_v1_1) = (dats m 0 c).arrAt 3 cfg0.N
      ∧ r.2.mem ((c.tc : Thread nD τ).loc main_v1_2) = (dats m 0 c).arrAt 4 cfg0.N
      ∧ r.2.mem ((c.tc : Thread nD τ).loc main_v1_3) = (dats m 0 c).arrAt 5 cfg0.N)
      ∧ r.2.sem = fun _ => 0) :=
  (θ_run defs _ _).mono (fun _ h => ⟨fun c =>
    ⟨((h.1 c).2 main_arg0 (Pipeline.mem_restRefs_of main_arg0 (by decide) (by decide))).trans (V_main_arg0 m c),
      (h.1 c).1 2, (h.1 c).1 3, (h.1 c).1 4, (h.1 c).1 5⟩, h.2⟩) (run_main m ρ)

/-- The frame: the argument ends unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  (θ_run defs _ _).mono (fun _ h => ⟨fun c => (h.1 c).1, h.2⟩) (run m ρ)

end Cert.Quant.Hand

end
-- ==== Proof.QuantLit.lean ====
/-
  The rotation's matrix: in every block of 32 the signs by the parity of the common bits, zero between blocks.
-/
module

public import proofs.«01_k».proof.Proof.QuantRow

@[expose] public section

set_option maxRecDepth 16384
set_option Elab.async false

noncomputable section

namespace Cert.Quant.XTile

open Idealize.ShloMosaic Cert.Quant Cert.Quant.Row

/-- The matrix's entry as bits. -/
def entryBits (a : Fin 8) (j : Fin 32) (b : Fin 8) (i : Fin 32) : BitVec 16 :=
  if a = b then (if signWord j i = 1#32 then 0x3F80#16 else 0xBF80#16) else 0#16

/-- The table and the matrix agree on the rows of one block. -/
def Agree (a : Fin 8) : Prop := ∀ (j : Fin 32) (b : Fin 8) (i : Fin 32),
  lit0t (256 * (32 * a.val + j.val) + (32 * b.val + i.val)) = entryBits a j b i

instance (a : Fin 8) : Decidable (Agree a) := by unfold Agree; infer_instance

theorem agree0 : Agree 0 := by decide +kernel
theorem agree1 : Agree 1 := by decide +kernel
theorem agree2 : Agree 2 := by decide +kernel
theorem agree3 : Agree 3 := by decide +kernel
theorem agree4 : Agree 4 := by decide +kernel
theorem agree5 : Agree 5 := by decide +kernel
theorem agree6 : Agree 6 := by decide +kernel
theorem agree7 : Agree 7 := by decide +kernel

theorem agree (a : Fin 8) : Agree a := by
  match a with
  | 0 => exact agree0
  | 1 => exact agree1
  | 2 => exact agree2
  | 3 => exact agree3
  | 4 => exact agree4
  | 5 => exact agree5
  | 6 => exact agree6
  | 7 => exact agree7

theorem lit_eq (a : Fin 8) (j : Fin 32) (b : Fin 8) (i : Fin 32) :
    lit0t (256 * (32 * a.val + j.val) + (32 * b.val + i.val)) = entryBits a j b i := agree a j b i

end Cert.Quant.XTile

end
-- ==== Proof.QuantValue.lean ====
/-
  What the quantising call leaves over the reals: its four result arrays, row by row.
-/
module

public import proofs.«01_k».proof.Proof.QuantTileValue
public import proofs.«01_k».proof.Proof.QuantFrame
public import proofs.«01_k».proof.Proof.QuantLit
public import Idealize.ShloMosaic.Lib.Pipeline.ValueKit.Geometry
public import Idealize.ShloMosaic.Lib.Pointwise

@[expose] public section

set_option maxRecDepth 16384

noncomputable section

namespace Cert.Quant.Hand

open Idealize.ShloMosaic Idealize.ShloMosaic.TcCoe Idealize.ShloMosaic.Pointwise Idealize.SL.Sem
open Cert.Quant Cert.Quant.Gen Cert.Quant.XTile Cert.Quant.Row

variable (m : (ℓ : Loc nD τ sig) → Buf (Elt Ideal) ℓ) (ρ : Dev nD → PrngReg)

/-- The activations with their two leading axes joined. -/
def flat (x : Vec Ideal S16x1024x2560 .bf16) : Vec Ideal S16384x2560 .bf16 := shapeCast S16384x2560 x shapeCasts_S16x1024x2560_S16384x2560

theorem V_main_v0 (c : Dev nD) : V m c main_v0 = flat (m ((c : Thread nD τ).loc main_arg0)) := by
  show StableHlo.after hostOps0 (fun b => m (c, b)) (Proc.devRef .tc main_v0) = _
  unfold hostOps0
  after_results
  rfl

/-- The matrix the call is given. -/
def matrix : Vec Ideal S256x256 .bf16 := fun i => FloatOps.ofBits (F := Ideal) .bf16 (lit0 (S256x256.rowMajor i))

theorem V_main_cst (c : Dev nD) : V m c main_cst = matrix := by
  show StableHlo.after hostOps0 (fun b => m (c, b)) (Proc.devRef .tc main_cst) = _
  unfold hostOps0
  after_results
  rfl

theorem bits_one : Ideal.ofBits .bf16 0x3F80#16 = ((1 : ℝ) : EReal) := by
  simp [Ideal.ofBits, Ideal.ieee, -EReal.coe_mul]; norm_num
theorem bits_minus : Ideal.ofBits .bf16 0xBF80#16 = ((-1 : ℝ) : EReal) := by
  simp [Ideal.ofBits, Ideal.ieee, -EReal.coe_mul, -EReal.coe_neg]; norm_num
theorem bits_zero : Ideal.ofBits .bf16 0#16 = 0 := by
  simp [Ideal.ofBits, Ideal.ieee, -EReal.coe_mul]

theorem sign_value (j i : Fin 32) :
    Ideal.ofBits .bf16 (if signWord j i = 1#32 then 0x3F80#16 else 0xBF80#16) = sgn j i := by
  unfold sgn
  rcases sign_cases j i with e | e
  · rw [e, if_pos rfl, bits_one]
    norm_num
  · rw [e, if_neg (by decide), bits_minus]
    have t : (4294967295#32).toInt = -1 := by decide
    rw [t]
    norm_num

theorem lit0_val (i : Fin 65536) : lit0 i = lit0t i.val := rfl

theorem matrix_diagonal : Diagonal matrix := by
  intro k n
  have hk := k.isLt
  have hn := n.isLt
  show Ideal.ofBits .bf16 (lit0 (S256x256.rowMajor (ix2 k n))) = _
  have e : (S256x256.rowMajor (ix2 k n)).val
      = 256 * (32 * (k.val / 32) + k.val % 32) + (32 * (n.val / 32) + n.val % 32) := by
    rw [Shape.rowMajor_val_two]
    show k.val * 256 + n.val = _
    omega
  have l := lit_eq ⟨k.val / 32, by omega⟩ ⟨k.val % 32, by omega⟩ ⟨n.val / 32, by omega⟩ ⟨n.val % 32, by omega⟩
  rw [(lit0_val _).trans ((congrArg lit0t e).trans l)]
  unfold entryBits
  by_cases h : k.val / 32 = n.val / 32
  · rw [if_pos (Fin.ext h), if_pos h, sign_value]
  · rw [if_neg fun f => h (congrArg Fin.val f), if_neg h, bits_zero]

/-! ### The arrays -/

/-- A row of the activations. -/
def row (x : Vec Ideal S16384x2560 .bf16) (R : Fin 16384) : Fin 2560 → EReal := fun C => x (ix2 R C)

def arrX (x : Vec Ideal S16384x2560 .bf16) : Vec Ideal S16384x2560 .bf16 := fun y => xqK (row x (y 0)) (y 1)
def arrC (x : Vec Ideal S16384x2560 .bf16) : Vec Ideal S16384x2560 .fp8e4m3 := fun y => codeK (row x (y 0)) (y 1)
def arrS (x : Vec Ideal S16384x2560 .bf16) : Vec Ideal S16384x80 .i8 := fun y => scaleK (row x (y 0)) (y 1)
def arrK (x : Vec Ideal S16384x2560 .bf16) : Vec Ideal S16384x320 .i8 := fun y => maskK (row x (y 0)) (y 1)

theorem index0_0 : ∀ t : Fin cfg0.N, win0_0.index t = ![t.val, 0] := (by decide +kernel : ∀ t : Fin grid0.N, _)
theorem index0_1 : ∀ t : Fin cfg0.N, win0_1.index t = ![0, 0] := (by decide +kernel : ∀ t : Fin grid0.N, _)
theorem index0_2 : ∀ t : Fin cfg0.N, win0_2.index t = ![t.val, 0] := (by decide +kernel : ∀ t : Fin grid0.N, _)
theorem index0_3 : ∀ t : Fin cfg0.N, win0_3.index t = ![t.val, 0] := (by decide +kernel : ∀ t : Fin grid0.N, _)
theorem index0_4 : ∀ t : Fin cfg0.N, win0_4.index t = ![t.val, 0] := (by decide +kernel : ∀ t : Fin grid0.N, _)
theorem index0_5 : ∀ t : Fin cfg0.N, win0_5.index t = ![t.val, 0] := (by decide +kernel : ∀ t : Fin grid0.N, _)

theorem iblk_1 (c : Dev nD) (t : Fin cfg0.N) : iblk m c 1 t = V m c main_cst := by
  funext y
  blk_simp [iblk]
  exact congrArg (V m c main_cst) (by blk_ext [index0_1])

theorem diagonal_iblk (c : Dev nD) (t : Fin cfg0.N) : Diagonal (iblk m c 1 t) := by
  rw [iblk_1, V_main_cst]
  exact matrix_diagonal

attribute [local irreducible] xqK codeK scaleK maskK

theorem final_X (c : Dev nD) : (dats m 0 c).arrAt 2 cfg0.N = arrX (V m c main_v0) := by
  refine (dats m 0 c).arrAt_eq_of_covers 2 _ (by decide +kernel) fun t hf y => ?_
  blk_simp
  rw [after0_2, outX_eq (diagonal_iblk m c t)]
  unfold tileX arrX
  refine congrArg₂ xqK (funext fun C => ?_) ?_
  · unfold rowOf row
    blk_simp [iblk]
    refine congrArg (V m c main_v0) ?_
    blk_ext [index0_0, index0_2]
  · exact Fin.ext (by blk_simp [index0_2])

theorem final_C (c : Dev nD) : (dats m 0 c).arrAt 3 cfg0.N = arrC (V m c main_v0) := by
  refine (dats m 0 c).arrAt_eq_of_covers 3 _ (by decide +kernel) fun t hf y => ?_
  blk_simp
  rw [after0_3, outC_eq (diagonal_iblk m c t)]
  unfold tileC arrC
  refine congrArg₂ codeK (funext fun C => ?_) ?_
  · unfold rowOf row
    blk_simp [iblk]
    refine congrArg (V m c main_v0) ?_
    blk_ext [index0_0, index0_3]
  · exact Fin.ext (by blk_simp [index0_3])

theorem final_S (c : Dev nD) : (dats m 0 c).arrAt 4 cfg0.N = arrS (V m c main_v0) := by
  refine (dats m 0 c).arrAt_eq_of_covers 4 _ (by decide +kernel) fun t hf y => ?_
  blk_simp
  rw [after0_4, outS_eq (diagonal_iblk m c t)]
  unfold tileS arrS
  refine congrArg₂ scaleK (funext fun C => ?_) ?_
  · unfold rowOf row
    blk_simp [iblk]
    refine congrArg (V m c main_v0) ?_
    blk_ext [index0_0, index0_4]
  · exact Fin.ext (by blk_simp [index0_4])

theorem final_K (c : Dev nD) : (dats m 0 c).arrAt 5 cfg0.N = arrK (V m c main_v0) := by
  refine (dats m 0 c).arrAt_eq_of_covers 5 _ (by decide +kernel) fun t hf y => ?_
  blk_simp
  rw [after0_5, outK_eq (diagonal_iblk m c t)]
  unfold tileK arrK
  refine congrArg₂ maskK (funext fun C => ?_) ?_
  · unfold rowOf row
    blk_simp [iblk]
    refine congrArg (V m c main_v0) ?_
    blk_ext [index0_0, index0_5]
  · exact Fin.ext (by blk_simp [index0_5])

/-- Every run over the reals: the argument as it was, the four result arrays row by row, every counter at zero. -/
theorem run_value : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_v1_0) = arrX (flat (m ((c.tc : Thread nD τ).loc main_arg0)))
      ∧ r.2.mem ((c.tc : Thread nD τ).loc main_v1_1) = arrC (flat (m ((c.tc : Thread nD τ).loc main_arg0)))
      ∧ r.2.mem ((c.tc : Thread nD τ).loc main_v1_2) = arrS (flat (m ((c.tc : Thread nD τ).loc main_arg0)))
      ∧ r.2.mem ((c.tc : Thread nD τ).loc main_v1_3) = arrK (flat (m ((c.tc : Thread nD τ).loc main_arg0))))
      ∧ r.2.sem = fun _ => 0) :=
  (θ_run defs _ _).mono (fun _ h => ⟨fun c => by
      have hv := V_main_v0 m c
      exact ⟨(h.1 c).1, ((h.1 c).2.1.trans (final_X m c)).trans (congrArg arrX hv), ((h.1 c).2.2.1.trans (final_C m c)).trans (congrArg arrC hv),
        ((h.1 c).2.2.2.1.trans (final_S m c)).trans (congrArg arrS hv), ((h.1 c).2.2.2.2.trans (final_K m c)).trans (congrArg arrK hv)⟩, h.2⟩)
    (run m ρ)

end Cert.Quant.Hand

end
-- ==== Proof.QuantSame.lean ====
/-
  The idealized quantiser is the quantiser printed again under another name: what is proved of the one is proved of the
  other.
-/
module

public import proofs.«01_k».proof.Defs
public import proofs.«01_k».proof.Proof.Gen.QuantIdeal
public import proofs.«01_k».proof.Proof.QuantValue

@[expose] public section

noncomputable section

namespace Cert.Proof

open Idealize.ShloMosaic Idealize.ShloMosaic.TcCoe Idealize.SL.Sem

theorem quant_same :
    (∀ (m : (ℓ : Loc Cert.QuantIdeal.nD Cert.QuantIdeal.τ Cert.QuantIdeal.sig) → Buf (Elt Ideal) ℓ) (ρ : Dev Cert.QuantIdeal.nD → PrngReg),
    θ_run (Cert.QuantIdeal.defs (F := Ideal)) (onTc (τ := Cert.QuantIdeal.τ) (Cert.QuantIdeal.main (F := Ideal))) ⟨m, fun _ => 0, ρ⟩ (fun r => (∀ c : Dev Cert.QuantIdeal.nD,
      r.2.mem ((c.tc : Thread Cert.QuantIdeal.nD Cert.QuantIdeal.τ).loc Cert.QuantIdeal.main_arg0) = m ((c.tc : Thread Cert.QuantIdeal.nD Cert.QuantIdeal.τ).loc Cert.QuantIdeal.main_arg0)
      ∧ r.2.mem ((c.tc : Thread Cert.QuantIdeal.nD Cert.QuantIdeal.τ).loc Cert.QuantIdeal.main_v1_0) = Cert.Quant.Hand.arrX (Cert.Quant.Hand.flat (m ((c.tc : Thread Cert.QuantIdeal.nD Cert.QuantIdeal.τ).loc Cert.QuantIdeal.main_arg0)))
      ∧ r.2.mem ((c.tc : Thread Cert.QuantIdeal.nD Cert.QuantIdeal.τ).loc Cert.QuantIdeal.main_v1_1) = Cert.Quant.Hand.arrC (Cert.Quant.Hand.flat (m ((c.tc : Thread Cert.QuantIdeal.nD Cert.QuantIdeal.τ).loc Cert.QuantIdeal.main_arg0)))
      ∧ r.2.mem ((c.tc : Thread Cert.QuantIdeal.nD Cert.QuantIdeal.τ).loc Cert.QuantIdeal.main_v1_2) = Cert.Quant.Hand.arrS (Cert.Quant.Hand.flat (m ((c.tc : Thread Cert.QuantIdeal.nD Cert.QuantIdeal.τ).loc Cert.QuantIdeal.main_arg0)))
      ∧ r.2.mem ((c.tc : Thread Cert.QuantIdeal.nD Cert.QuantIdeal.τ).loc Cert.QuantIdeal.main_v1_3) = Cert.Quant.Hand.arrK (Cert.Quant.Hand.flat (m ((c.tc : Thread Cert.QuantIdeal.nD Cert.QuantIdeal.τ).loc Cert.QuantIdeal.main_arg0))))
      ∧ r.2.sem = fun _ => 0))
    =
    (∀ (m : (ℓ : Loc Cert.Quant.nD Cert.Quant.τ Cert.Quant.sig) → Buf (Elt Ideal) ℓ) (ρ : Dev Cert.Quant.nD → PrngReg),
    θ_run (Cert.Quant.defs (F := Ideal)) (onTc (τ := Cert.Quant.τ) (Cert.Quant.main (F := Ideal))) ⟨m, fun _ => 0, ρ⟩ (fun r => (∀ c : Dev Cert.Quant.nD,
      r.2.mem ((c.tc : Thread Cert.Quant.nD Cert.Quant.τ).loc Cert.Quant.main_arg0) = m ((c.tc : Thread Cert.Quant.nD Cert.Quant.τ).loc Cert.Quant.main_arg0)
      ∧ r.2.mem ((c.tc : Thread Cert.Quant.nD Cert.Quant.τ).loc Cert.Quant.main_v1_0) = Cert.Quant.Hand.arrX (Cert.Quant.Hand.flat (m ((c.tc : Thread Cert.Quant.nD Cert.Quant.τ).loc Cert.Quant.main_arg0)))
      ∧ r.2.mem ((c.tc : Thread Cert.Quant.nD Cert.Quant.τ).loc Cert.Quant.main_v1_1) = Cert.Quant.Hand.arrC (Cert.Quant.Hand.flat (m ((c.tc : Thread Cert.Quant.nD Cert.Quant.τ).loc Cert.Quant.main_arg0)))
      ∧ r.2.mem ((c.tc : Thread Cert.Quant.nD Cert.Quant.τ).loc Cert.Quant.main_v1_2) = Cert.Quant.Hand.arrS (Cert.Quant.Hand.flat (m ((c.tc : Thread Cert.Quant.nD Cert.Quant.τ).loc Cert.Quant.main_arg0)))
      ∧ r.2.mem ((c.tc : Thread Cert.Quant.nD Cert.Quant.τ).loc Cert.Quant.main_v1_3) = Cert.Quant.Hand.arrK (Cert.Quant.Hand.flat (m ((c.tc : Thread Cert.Quant.nD Cert.Quant.τ).loc Cert.Quant.main_arg0))))
      ∧ r.2.sem = fun _ => 0)) := by
  sl_kernel_rfl

/-- Every run of the idealized quantiser: the argument as it was and the four results row by row. -/
theorem run_quant : (∀ (m : (ℓ : Loc Cert.QuantIdeal.nD Cert.QuantIdeal.τ Cert.QuantIdeal.sig) → Buf (Elt Ideal) ℓ) (ρ : Dev Cert.QuantIdeal.nD → PrngReg),
    θ_run (Cert.QuantIdeal.defs (F := Ideal)) (onTc (τ := Cert.QuantIdeal.τ) (Cert.QuantIdeal.main (F := Ideal))) ⟨m, fun _ => 0, ρ⟩ (fun r => (∀ c : Dev Cert.QuantIdeal.nD,
      r.2.mem ((c.tc : Thread Cert.QuantIdeal.nD Cert.QuantIdeal.τ).loc Cert.QuantIdeal.main_arg0) = m ((c.tc : Thread Cert.QuantIdeal.nD Cert.QuantIdeal.τ).loc Cert.QuantIdeal.main_arg0)
      ∧ r.2.mem ((c.tc : Thread Cert.QuantIdeal.nD Cert.QuantIdeal.τ).loc Cert.QuantIdeal.main_v1_0) = Cert.Quant.Hand.arrX (Cert.Quant.Hand.flat (m ((c.tc : Thread Cert.QuantIdeal.nD Cert.QuantIdeal.τ).loc Cert.QuantIdeal.main_arg0)))
      ∧ r.2.mem ((c.tc : Thread Cert.QuantIdeal.nD Cert.QuantIdeal.τ).loc Cert.QuantIdeal.main_v1_1) = Cert.Quant.Hand.arrC (Cert.Quant.Hand.flat (m ((c.tc : Thread Cert.QuantIdeal.nD Cert.QuantIdeal.τ).loc Cert.QuantIdeal.main_arg0)))
      ∧ r.2.mem ((c.tc : Thread Cert.QuantIdeal.nD Cert.QuantIdeal.τ).loc Cert.QuantIdeal.main_v1_2) = Cert.Quant.Hand.arrS (Cert.Quant.Hand.flat (m ((c.tc : Thread Cert.QuantIdeal.nD Cert.QuantIdeal.τ).loc Cert.QuantIdeal.main_arg0)))
      ∧ r.2.mem ((c.tc : Thread Cert.QuantIdeal.nD Cert.QuantIdeal.τ).loc Cert.QuantIdeal.main_v1_3) = Cert.Quant.Hand.arrK (Cert.Quant.Hand.flat (m ((c.tc : Thread Cert.QuantIdeal.nD Cert.QuantIdeal.τ).loc Cert.QuantIdeal.main_arg0))))
      ∧ r.2.sem = fun _ => 0)) :=
  quant_same.mpr Cert.Quant.Hand.run_value

end Cert.Proof

end
-- ==== Proof.QuantRefRow.lean ====
/-
  The quantiser's reference over the reals, block by block: each value of its body at a block and a place in it.
-/
module

public import proofs.«01_k».proof.Proof.Gen.QuantReferenceIdeal.Frame
public import proofs.«01_k».proof.Proof.QuantRow
public import Idealize.ShloMosaic.Lib.Pointwise

@[expose] public section

set_option maxRecDepth 16384

noncomputable section

namespace Cert.QuantReferenceIdeal.RefRow

open Idealize.ShloMosaic Idealize.ShloMosaic.Pointwise
open Cert.QuantReferenceIdeal Cert.QuantReferenceIdeal.Gen Cert.Quant.Scalar Cert.Quant.Row
open Cert.Quant.XTile (insideB packed orAll)

/-- A row of the activations, and a block's index among all blocks. -/
def row (x : Vec Ideal S16384x2560 .bf16) (R : Fin 16384) : Fin 2560 → EReal := fun C => x (ix2 R C)
def nth (R : Fin 16384) (b : Fin 80) : Fin 1310720 := ⟨80 * R.val + b.val, by omega⟩
def col (b : Fin 80) (u : Fin 32) : Fin 2560 := ⟨32 * b.val + u.val, by omega⟩

variable (x : Vec Ideal S16384x2560 .bf16) (R : Fin 16384) (b : Fin 80) (u : Fin 32)

theorem blk_col : blk (col b u) = b := Fin.ext (by show (32 * b.val + u.val) / 32 = b.val; omega)

theorem split_col (C : Fin 2560) : col (blk C) ⟨C.val % 32, by omega⟩ = C :=
  Fin.ext (by show 32 * (C.val / 32) + C.val % 32 = C.val; omega)

theorem blocks_apply {α : Type} (v : S16384x2560.Idx → α) (h : S16384x2560.ShapeCasts S1310720x32) :
    shapeCast S1310720x32 v h (ix2 (nth R b) u) = v (ix2 R (col b u)) :=
  shapeCast_apply _ _ _ _ (by
    rw [Shape.rowMajor_val_two, Shape.rowMajor_val_two]
    show R.val * 2560 + (32 * b.val + u.val) = (80 * R.val + b.val) * 32 + u.val
    omega)

theorem unblocks_apply {α : Type} (v : S1310720x32.Idx → α) (h : S1310720x32.ShapeCasts S16384x2560) :
    shapeCast S16384x2560 v h (ix2 R (col b u)) = v (ix2 (nth R b) u) :=
  shapeCast_apply _ _ _ _ (by
    rw [Shape.rowMajor_val_two, Shape.rowMajor_val_two]
    show (80 * R.val + b.val) * 32 + u.val = R.val * 2560 + (32 * b.val + u.val)
    omega)

theorem column_apply {α : Type} (v : S1310720.Idx → α) (h : S1310720.ShapeCasts S1310720x1) (B : Fin 1310720) :
    shapeCast S1310720x1 v h (ix2 B 0) = v (ix1 B) :=
  shapeCast_apply _ _ _ _ (by
    rw [Shape.rowMajor_val_two, Shape.rowMajor_val_one]
    show B.val = B.val * 1 + 0
    omega)

theorem scales_apply {α : Type} (v : S1310720x1.Idx → α) (h : S1310720x1.ShapeCasts S16384x80) :
    shapeCast S16384x80 v h (ix2 R b) = v (ix2 (nth R b) 0) :=
  shapeCast_apply _ _ _ _ (by
    rw [Shape.rowMajor_val_two, Shape.rowMajor_val_two]
    show (80 * R.val + b.val) * 1 + 0 = R.val * 80 + b.val
    omega)

/-! ### The rotated values -/

theorem pay5_apply : k0_pay5 x (ix2 (nth R b) u) = rotv (row x R) (col b u) := by
  pointwise [k0_pay5]
  unfold rotv row
  refine congrArg (fun v : EReal => v * Ideal.ofBits .f32 0x3E3504F3#32) ?_
  refine Finset.sum_congr (M := EReal) rfl fun j _ => ?_
  have hb := b.isLt
  have hu := u.isLt
  refine congrArg₂ (fun v w : EReal => v * w) (congrArg x (congrArg₂ ix2 (Fin.ext ?_) (Fin.ext ?_))) ?_
  · show (80 * R.val + b.val) / 80 = R.val
    omega
  · show (80 * R.val + b.val) % 80 * 32 + j.val = 32 * ((32 * b.val + u.val) / 32) + j.val
    omega
  · have e : (⟨(col b u).val % 32, by omega⟩ : Fin 32) = u := Fin.ext (by show (32 * b.val + u.val) % 32 = u.val; omega)
    rw [e]
    rfl

theorem meanSqrt_apply {s : Shape} (v : FVec Ideal s .f32) (c : Ideal .f32) (y : s.Idx) :
    sqrt (divf v (broadcast s c)) y = Ideal.sqrt (Ideal.div (v y) c) := rfl

theorem sumI {s t : Shape} {a : Fin s.rank} (src : IVec s 32) (h : s.Reduces [a] t) (j : t.Idx) :
    multiReductionI .add [a] t src 0#32 h rfl j = Finset.univ.fold IntOp.addi 0#32 fun k => src (h.lift j k) :=
  (multiReductionI_eq_fold .add src 0#32 h rfl j).trans (h.fold_filter_drop_single IntOp.addi 0#32 src j)

theorem lift32 (B : Fin 1310720) (k : Fin 32) : reduces_S1310720x32_S1310720.lift (ix1 B) k = ix2 B k := by
  funext a
  match a with
  | ⟨0, _⟩ => rfl
  | ⟨1, _⟩ => rfl

theorem lift254 (B : Fin 1310720) (k : Fin 254) : reduces_S1310720x254_S1310720.lift (ix1 B) k = ix2 B k := by
  funext a
  match a with
  | ⟨0, _⟩ => rfl
  | ⟨1, _⟩ => rfl

theorem pay6_apply : k0_pay6 x (ix2 (nth R b) 0) = rmsR (sumB (row x R) b) := by
  unfold k0_pay6
  refine (meanSqrt_apply _ _ _).trans ?_
  refine congrArg (fun s => Ideal.sqrt (Ideal.div s (Ideal.ofBits .f32 0x42000000#32))) ?_
  refine (column_apply _ _ _).trans ((Ideal.multiReduction_add_single _ _ _ _ _ _).trans ?_)
  refine Finset.sum_congr (M := EReal) rfl fun k _ => ?_
  refine (congrArg _ (lift32 _ k)).trans ?_
  exact congrArg (fun v : EReal => v * v) (pay5_apply x R b k)

theorem pay8_apply : k0_pay8 x (ix2 (nth R b) 0) = Ideal.cmp .oeq (rmsR (sumB (row x R) b)) (Ideal.ofBits .f32 0x00000000#32) :=
  congrArg (Ideal.cmp .oeq · (Ideal.ofBits .f32 0x00000000#32)) (pay6_apply x R b)

theorem count_apply (v : FVec Ideal S1310720x1 .f32) (w : FVec Ideal S1x254 .f32) (B : Fin 1310720) (k : Fin 254) :
    extui 32 (cmpf .oge (broadcastTo S1310720x254 v broadcasts_S1310720x1_S1310720x254)
      (broadcastTo S1310720x254 w broadcasts_S1x254_S1310720x254)) natLt_1_32 (ix2 B k)
    = BitVec.setWidth 32 (Ideal.cmp .oge (v (ix2 B 0)) (w (ix2 0 k))) := by
  pointwise

theorem powers_apply (k : Fin 254) : (exp2 (sitofp .f32 (subi (iota .tc S1x254 32 [1] iota_S1x254_d1_w32) (broadcast S1x254 126#32))) : FVec Ideal S1x254 .f32) (ix2 0 k)
    = Ideal.exp2 (((BitVec.ofNat 32 k.val - 126#32).toInt : ℝ) : EReal) := by
  pointwise
  rfl

theorem pay7_apply : k0_pay7 x (ix2 (nth R b) 0)
    = IntOp.subi (BitVec.ofNat 32 (Finset.univ.filter fun k : Fin 254 =>
      Ideal.cmp .oge (scaleOf (rmsR (sumB (row x R) b))) (Ideal.exp2 (((BitVec.ofNat 32 k.val - 126#32).toInt : ℝ) : EReal)) = 1#1).card) 127#32 := by
  unfold k0_pay7
  refine congrArg (IntOp.subi · 127#32) ((column_apply _ _ _).trans ((sumI _ _ _).trans ?_))
  refine Eq.trans ?_ (IndicatorCount.fold_addi_setWidth_eq_card _ _)
  refine Finset.fold_congr fun k _ => ?_
  refine (congrArg _ (lift254 _ k)).trans ((count_apply _ _ _ k).trans ?_)
  refine congrArg (BitVec.setWidth 32) (congrArg₂ (Ideal.cmp .oge) ?_ (powers_apply k))
  exact congrArg scaleOf (pay6_apply x R b)

/-! ### From the exponent on -/

/-- The exponents of all blocks. -/
def expos : IVec S1310720x1 32 := k0_pay10 (k0_pay7 x) (k0_pay8 x) k0_pay9

theorem expos_apply : expos x (ix2 (nth R b) 0) = expoR (sumB (row x R) b) := by
  unfold expoR
  rw [← pay7_apply, ← pay8_apply]
  rfl

def overs : FVec Ideal S1310720x32 .f32 := k0_pay11 (k0_pay5 x) (k0_pay7 x) (k0_pay8 x) k0_pay9

theorem scaled_apply (v : FVec Ideal S1310720x32 .f32) (e : IVec S1310720x1 32) (B : Fin 1310720) :
    mulf v (broadcastTo S1310720x32 (exp2 (sitofp .f32 (subi (broadcast S1310720x1 0#32) e))) broadcasts_S1310720x1_S1310720x32) (ix2 B u)
      = (v (ix2 B u) : EReal) * downR (e (ix2 B 0)) := by
  pointwise [downR]
  rfl

theorem overs_apply : overs x (ix2 (nth R b) u) = overR (row x R) (col b u) := by
  unfold overR
  rw [blk_col, ← expos_apply, ← pay5_apply]
  exact scaled_apply u (k0_pay5 x) (expos x) (nth R b)

def insides : IVec S1310720x32 1 := k0_pay12 (k0_pay5 x) (k0_pay7 x) (k0_pay8 x) k0_pay9

theorem insides_apply : insides x (ix2 (nth R b) u) = insideB (overR (row x R) (col b u)) := by
  rw [← overs_apply]
  rfl

def codes : FVec Ideal S1310720x32 .fp8e4m3 := k0_pay13 (k0_pay5 x) (k0_pay7 x) (k0_pay8 x) k0_pay9

theorem codes_apply : codes x (ix2 (nth R b) u) = codeR (row x R) (col b u) := by
  unfold codeR
  rw [← overs_apply]
  rfl

/-! ### The stored arrays -/

theorem xq_apply (C : Fin 2560) : k0_pay3 (expos x) (codes x) (ix2 R C) = xqR (row x R) C := by
  obtain ⟨b, u, rfl⟩ : ∃ b u, C = col b u := ⟨_, _, (split_col C).symm⟩
  unfold k0_pay3
  refine (unblocks_apply R b u _ _).trans ?_
  unfold xqR
  rw [blk_col, ← expos_apply, ← codes_apply]
  pointwise [k0_pay1, upR, byteOfExpo]
  rfl

theorem code_apply (C : Fin 2560) : k0_pay14 (k0_pay5 x) (k0_pay7 x) (k0_pay8 x) k0_pay9 (ix2 R C) = codeR (row x R) C := by
  obtain ⟨b, u, rfl⟩ : ∃ b u, C = col b u := ⟨_, _, (split_col C).symm⟩
  rw [← codes_apply]
  unfold k0_pay14
  exact unblocks_apply R b u _ _

theorem scale_apply : k0_pay2 (expos x) (ix2 R b) = scaleR (row x R) b := by
  unfold scaleR
  rw [← expos_apply]
  unfold k0_pay2
  refine (scales_apply R b _ _).trans ?_
  rfl

/-! ### The mask -/

theorem bits_dec : ∀ f0 f1 f2 f3 f4 f5 f6 f7 : Fin 2, BitVec.setWidth 8 ((Finset.univ : Finset (Fin 8)).fold IntOp.addi 0#32 fun u =>
      IntOp.shli .vector (BitVec.setWidth 32 ((![BitVec.ofNat 1 f0.val, BitVec.ofNat 1 f1.val, BitVec.ofNat 1 f2.val, BitVec.ofNat 1 f3.val,
        BitVec.ofNat 1 f4.val, BitVec.ofNat 1 f5.val, BitVec.ofNat 1 f6.val, BitVec.ofNat 1 f7.val] : Fin 8 → BitVec 1) u)) (BitVec.ofNat 32 u.val))
    = packed ![BitVec.ofNat 1 f0.val, BitVec.ofNat 1 f1.val, BitVec.ofNat 1 f2.val, BitVec.ofNat 1 f3.val,
        BitVec.ofNat 1 f4.val, BitVec.ofNat 1 f5.val, BitVec.ofNat 1 f6.val, BitVec.ofNat 1 f7.val] := by
  decide +kernel

theorem bits_eq (f : Fin 8 → BitVec 1) : BitVec.setWidth 8 ((Finset.univ : Finset (Fin 8)).fold IntOp.addi 0#32 fun u =>
      IntOp.shli .vector (BitVec.setWidth 32 (f u)) (BitVec.ofNat 32 u.val)) = packed f := by
  have h := bits_dec ⟨(f 0).toNat, (f 0).isLt⟩ ⟨(f 1).toNat, (f 1).isLt⟩ ⟨(f 2).toNat, (f 2).isLt⟩ ⟨(f 3).toNat, (f 3).isLt⟩
    ⟨(f 4).toNat, (f 4).isLt⟩ ⟨(f 5).toNat, (f 5).isLt⟩ ⟨(f 6).toNat, (f 6).isLt⟩ ⟨(f 7).toNat, (f 7).isLt⟩
  simp only [BitVec.ofNat_toNat, BitVec.setWidth_eq] at h
  have e : (![f 0, f 1, f 2, f 3, f 4, f 5, f 6, f 7] : Fin 8 → BitVec 1) = f := by
    funext k; fin_cases k <;> rfl
  rw [e] at h
  exact h

def octet (R : Fin 16384) (j : Fin 320) : Fin 5242880 := ⟨320 * R.val + j.val, by omega⟩

theorem lift8 (Q : Fin 5242880) (k : Fin 8) : reduces_S5242880x8_S5242880.lift (ix1 Q) k = ix2 Q k := by
  funext a
  match a with
  | ⟨0, _⟩ => rfl
  | ⟨1, _⟩ => rfl

theorem octets_apply {α : Type} (v : S1310720x32.Idx → α) (h : S1310720x32.ShapeCasts S5242880x8) (j : Fin 320) (k : Fin 8) :
    shapeCast S5242880x8 v h (ix2 (octet R j) k) = v (ix2 (nth R ⟨j.val / 4, by omega⟩) ⟨8 * (j.val % 4) + k.val, by omega⟩) :=
  shapeCast_apply _ _ _ _ (by
    rw [Shape.rowMajor_val_two, Shape.rowMajor_val_two]
    show (80 * R.val + j.val / 4) * 32 + (8 * (j.val % 4) + k.val) = (320 * R.val + j.val) * 8 + k.val
    omega)

theorem octetColumn_apply {α : Type} (v : S5242880.Idx → α) (h : S5242880.ShapeCasts S5242880x1) (Q : Fin 5242880) :
    shapeCast S5242880x1 v h (ix2 Q 0) = v (ix1 Q) :=
  shapeCast_apply _ _ _ _ (by
    rw [Shape.rowMajor_val_two, Shape.rowMajor_val_one]
    show Q.val = Q.val * 1 + 0
    omega)

theorem bytes_apply {α : Type} (v : S5242880x1.Idx → α) (h : S5242880x1.ShapeCasts S16384x320) (j : Fin 320) :
    shapeCast S16384x320 v h (ix2 R j) = v (ix2 (octet R j) 0) :=
  shapeCast_apply _ _ _ _ (by
    rw [Shape.rowMajor_val_two, Shape.rowMajor_val_two]
    show (320 * R.val + j.val) * 1 + 0 = R.val * 320 + j.val
    omega)

theorem shifted_apply (v : IVec S5242880x8 32) (Q : Fin 5242880) (k : Fin 8) :
    shli v (broadcastTo S5242880x8 (iota .tc S1x8 32 [1] iota_S1x8_d1_w32) broadcasts_S1x8_S5242880x8) (ix2 Q k)
      = IntOp.shli .vector (v (ix2 Q k)) (BitVec.ofNat 32 k.val) := by
  pointwise

theorem mask_apply (j : Fin 320) : k0_pay4 (insides x) (ix2 R j) = maskR (row x R) j := by
  unfold k0_pay4
  refine (bytes_apply R _ _ j).trans ?_
  refine (congrArg (BitVec.setWidth 8) ((octetColumn_apply _ _ _).trans (sumI _ _ _))).trans ?_
  unfold maskR
  rw [← bits_eq]
  refine congrArg (BitVec.setWidth 8) (Finset.fold_congr fun k _ => ?_)
  refine (congrArg _ (lift8 _ k)).trans ((shifted_apply _ _ k).trans ?_)
  refine congrArg (IntOp.shli .vector · (BitVec.ofNat 32 k.val)) ?_
  refine (octets_apply R _ _ j k).trans (congrArg (BitVec.setWidth 32) ((insides_apply x R _ _).trans ?_))
  refine congrArg (fun C => insideB (overR (row x R) C)) (Fin.ext ?_)
  show 32 * (j.val / 4) + (8 * (j.val % 4) + k.val) = 8 * j.val + k.val
  omega

end Cert.QuantReferenceIdeal.RefRow

end
-- ==== Proof.QuantRefValue.lean ====
/-
  What the quantiser's reference leaves over the reals: its four result arrays, row by row.
-/
module

public import proofs.«01_k».proof.Proof.QuantRefRow
public import Idealize.ShloMosaic.Lib.Pipeline.ValueKit.Geometry

@[expose] public section

set_option maxRecDepth 16384

noncomputable section

namespace Cert.QuantReferenceIdeal.RefRow

open Idealize.ShloMosaic Idealize.ShloMosaic.TcCoe Idealize.ShloMosaic.Pointwise Idealize.SL.Sem
open Cert.QuantReferenceIdeal Cert.QuantReferenceIdeal.Gen Cert.Quant.Scalar Cert.Quant.Row

variable (m : (ℓ : Loc nD τ sig) → Buf (Elt Ideal) ℓ) (ρ : Dev nD → PrngReg)

/-- The activations with their two leading axes joined. -/
def flat (x : Vec Ideal S16x1024x2560 .bf16) : Vec Ideal S16384x2560 .bf16 := shapeCast S16384x2560 x shapeCasts_S16x1024x2560_S16384x2560

theorem V_main_v0 (c : Dev nD) : V m c main_v0 = flat (m ((c : Thread nD τ).loc main_arg0)) := by
  show StableHlo.after hostOps0 (fun b => m (c, b)) (Proc.devRef .tc main_v0) = _
  unfold hostOps0
  after_results
  rfl

def arrX (x : Vec Ideal S16384x2560 .bf16) : Vec Ideal S16384x2560 .bf16 := fun y => xqR (row x (y 0)) (y 1)
def arrC (x : Vec Ideal S16384x2560 .bf16) : Vec Ideal S16384x2560 .fp8e4m3 := fun y => codeR (row x (y 0)) (y 1)
def arrS (x : Vec Ideal S16384x2560 .bf16) : Vec Ideal S16384x80 .i8 := fun y => scaleR (row x (y 0)) (y 1)
def arrK (x : Vec Ideal S16384x2560 .bf16) : Vec Ideal S16384x320 .i8 := fun y => maskR (row x (y 0)) (y 1)

theorem hz : (![0, 0] : Fin 2 → Nat) = fun _ => 0 := funext fun a => by fin_cases a <;> rfl

theorem index_0 : ∀ t : Fin cfg0.N, win0_0.index t = ![0, 0] := (by decide +kernel : ∀ t : Fin grid0.N, _)
theorem index_1 : ∀ t : Fin cfg0.N, win0_1.index t = ![0, 0] := (by decide +kernel : ∀ t : Fin grid0.N, _)
theorem index_2 : ∀ t : Fin cfg0.N, win0_2.index t = ![0, 0] := (by decide +kernel : ∀ t : Fin grid0.N, _)
theorem index_3 : ∀ t : Fin cfg0.N, win0_3.index t = ![0, 0] := (by decide +kernel : ∀ t : Fin grid0.N, _)
theorem index_4 : ∀ t : Fin cfg0.N, win0_4.index t = ![0, 0] := (by decide +kernel : ∀ t : Fin grid0.N, _)

theorem iblk_0 (c : Dev nD) (t : Fin cfg0.N) : iblk m c 0 t = V m c main_v0 := by
  funext y
  blk_simp [iblk]
  exact congrArg (V m c main_v0) (by blk_ext [index_0])

theorem at_coordinates {n k : Nat} {α : Type} (f g : (⟨2, ![n, k]⟩ : Shape).Idx → α) (h : ∀ (a : Fin n) (b : Fin k), f (ix2 a b) = g (ix2 a b)) : f = g := by
  funext y
  have e : y = ix2 (y 0) (y 1) := by
    funext a
    match a with
    | ⟨0, _⟩ => rfl
    | ⟨1, _⟩ => rfl
  rw [e]
  exact h _ _

theorem out1_eq (x : Vec Ideal S16384x2560 .bf16) : out0_1 x = arrX x := by
  unfold out0_1 k0_pay19 k0_pay15 k0_pay16 k0_pay17 k0_pay18
  rw [View.canon_unit_zero hz, View.ld_unit_zero hz]
  refine at_coordinates _ _ fun R C => ?_
  have h := xq_apply x R C
  unfold expos codes at h
  rw [h]
  rfl

theorem out2_eq (x : Vec Ideal S16384x2560 .bf16) : out0_2 x = arrC x := by
  unfold out0_2 k0_pay15 k0_pay16 k0_pay17 k0_pay18
  rw [View.canon_unit_zero hz, View.ld_unit_zero hz]
  exact at_coordinates _ _ fun R C => code_apply x R C

theorem out3_eq (x : Vec Ideal S16384x2560 .bf16) : out0_3 x = arrS x := by
  unfold out0_3 k0_pay19 k0_pay16 k0_pay17 k0_pay18
  rw [View.canon_unit_zero hz, View.ld_unit_zero hz]
  exact at_coordinates _ _ fun R C => scale_apply x R C

theorem out4_eq (x : Vec Ideal S16384x2560 .bf16) : out0_4 x = arrK x := by
  unfold out0_4 k0_pay15 k0_pay16 k0_pay17 k0_pay18
  rw [View.canon_unit_zero hz, View.ld_unit_zero hz]
  exact at_coordinates _ _ fun R C => mask_apply x R C

theorem final_X (c : Dev nD) : (dats m 0 c).arrAt 1 cfg0.N = arrX (V m c main_v0) := by
  refine (dats m 0 c).arrAt_eq_of_covers 1 _ (by decide +kernel) fun t hf y => ?_
  blk_simp
  rw [after0_1, out1_eq, iblk_0]
  refine congrArg _ ?_
  blk_ext [index_1]

theorem final_C (c : Dev nD) : (dats m 0 c).arrAt 2 cfg0.N = arrC (V m c main_v0) := by
  refine (dats m 0 c).arrAt_eq_of_covers 2 _ (by decide +kernel) fun t hf y => ?_
  blk_simp
  rw [after0_2, out2_eq, iblk_0]
  refine congrArg _ ?_
  blk_ext [index_2]

theorem final_S (c : Dev nD) : (dats m 0 c).arrAt 3 cfg0.N = arrS (V m c main_v0) := by
  refine (dats m 0 c).arrAt_eq_of_covers 3 _ (by decide +kernel) fun t hf y => ?_
  blk_simp
  rw [after0_3, out3_eq, iblk_0]
  refine congrArg _ ?_
  blk_ext [index_3]

theorem final_K (c : Dev nD) : (dats m 0 c).arrAt 4 cfg0.N = arrK (V m c main_v0) := by
  refine (dats m 0 c).arrAt_eq_of_covers 4 _ (by decide +kernel) fun t hf y => ?_
  blk_simp
  rw [after0_4, out4_eq, iblk_0]
  refine congrArg _ ?_
  blk_ext [index_4]

/-- The run: the four result arrays at their functions, the argument unchanged. -/
theorem run : θ_run defs (onTc (τ := τ) (main (F := Ideal))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_v1_0) = arrX (flat (m ((c : Thread nD τ).loc main_arg0)))
      ∧ r.2.mem ((c.tc : Thread nD τ).loc main_v1_1) = arrC (flat (m ((c : Thread nD τ).loc main_arg0)))
      ∧ r.2.mem ((c.tc : Thread nD τ).loc main_v1_2) = arrS (flat (m ((c : Thread nD τ).loc main_arg0)))
      ∧ r.2.mem ((c.tc : Thread nD τ).loc main_v1_3) = arrK (flat (m ((c : Thread nD τ).loc main_arg0))) :=
  (θ_run defs _ _).mono (fun _ h c => by
      rw [← V_main_v0]
      exact ⟨((h c).2 main_arg0 (Pipeline.mem_restRefs_of main_arg0 (by decide) (by decide))).trans (V_main_arg0 m c),
        ((h c).1 1).trans (final_X m c), ((h c).1 2).trans (final_C m c), ((h c).1 3).trans (final_S m c), ((h c).1 4).trans (final_K m c)⟩)
    (run_main m ρ)

end Cert.QuantReferenceIdeal.RefRow

end
-- ==== Proof.QuantPre.lean ====
/-
  The quantiser's precondition, read block by block: each block of 32 is all zero or holds a scale of the format.
-/
module

public import proofs.«01_k».proof.Proof.Gen.Pre_blocks_normal
public import proofs.«01_k».proof.Proof.QuantRefRow
public import Idealize.ShloMosaic.Lib.ReduceAll
public import Idealize.ShloMosaic.Lib.Pointwise

@[expose] public section

set_option maxRecDepth 16384

noncomputable section

namespace Cert.Pre_blocks_normal.Blocks

open Idealize.ShloMosaic Idealize.ShloMosaic.Pointwise
open Cert.Pre_blocks_normal Cert.Pre_blocks_normal.Gen Cert.Quant.Scalar Cert.Quant.Row
open Cert.QuantReferenceIdeal.RefRow (nth col blk_col)

variable (x : FVec Ideal S16x1024x2560 .bf16)

/-- The signs, and the products before they are summed. -/
def signs : IVec S32x32 32 :=
  let i : IVec S32 32 := iotaInDim S32 32 0
  subi (broadcastInDim S32x32 ![] bcast_S_S32x32 (constantI S_ 32 1#32))
    (muli (broadcastInDim S32x32 ![] bcast_S_S32x32 (constantI S_ 32 2#32))
      (andi (ctpop (andi (broadcastInDim S32x32 ![0, 1] bcast_S32x1_S32x32_0_1 (broadcastInDim S32x1 ![0] bcast_S32_S32x1_0 i))
        (broadcastInDim S32x32 ![0, 1] bcast_S1x32_S32x32_0_1 (broadcastInDim S1x32 ![1] bcast_S32_S1x32_1 i))))
        (broadcastInDim S32x32 ![] bcast_S_S32x32 (constantI S_ 32 1#32))))

theorem signs_apply (j i : Fin 32) : signs (ix2 j i) = signWord j i := by
  pointwise [signs, signWord]

def spread (v : FVec Ideal S1310720x32 .f32) (h : FVec Ideal S32x32 .f32) : FVec Ideal S1310720x32x32 .f32 :=
  mulf (broadcastInDim S1310720x32x32 ![0, 1, 2] bcast_S1310720x32x1_S1310720x32x32_0_1_2 (broadcastInDim S1310720x32x1 ![0, 1] bcast_S1310720x32_S1310720x32x1_0_1 v))
    (broadcastInDim S1310720x32x32 ![0, 1, 2] bcast_S1x32x32_S1310720x32x32_0_1_2 (broadcastInDim S1x32x32 ![1, 2] bcast_S32x32_S1x32x32_1_2 h))

theorem spread_apply (v : FVec Ideal S1310720x32 .f32) (h : FVec Ideal S32x32 .f32) (B : Fin 1310720) (j i : Fin 32) :
    spread v h (ix3 B j i) = (v (ix2 B j) : EReal) * h (ix2 j i) := by
  pointwise [spread]

def products : FVec Ideal S1310720x32x32 .f32 :=
  spread (extf .f32 (shapeCast S1310720x32 x shapeCasts_S16x1024x2560_S1310720x32 : FVec Ideal S1310720x32 .bf16) bitsLt_bf16_f32) (sitofp .f32 signs)

def rotated (p : FVec Ideal S1310720x32x32 .f32) : FVec Ideal S1310720x32 .f32 :=
  mulf (Host.reduceAdd p (constant S_ .f32 0x00000000#32) reducesTo_S1310720x32x32_S1310720x32_d1 h_S_)
    (broadcastInDim S1310720x32 ![] bcast_S_S1310720x32 (constant S_ .f32 0x3E3504F3#32))

def rms (v : FVec Ideal S1310720x32 .f32) : FVec Ideal S1310720 .f32 :=
  Host.sqrt (Host.divf (Host.reduceAdd (mulf v v) (constant S_ .f32 0x00000000#32) reducesTo_S1310720x32_S1310720_d1 h_S_)
    (broadcastInDim S1310720 ![] bcast_S_S1310720 (constant S_ .f32 0x42000000#32)))

def scale (r : FVec Ideal S1310720 .f32) : FVec Ideal S1310720 .f32 :=
  mulf (mulf (broadcastInDim S1310720 ![] bcast_S_S1310720 (constant S_ .f32 0x403AE148#32)) r)
    (broadcastInDim S1310720 ![] bcast_S_S1310720 (constant S_ .f32 0x3E2AAAAB#32))

def good (r a : FVec Ideal S1310720 .f32) : IVec S1310720 1 :=
  ori (cmpf .oeq r (broadcastInDim S1310720 ![] bcast_S_S1310720 (constant S_ .f32 0x00000000#32)))
    (andi (cmpf .oge a (broadcastInDim S1310720 ![] bcast_S_S1310720 (constant S_ .f32 0x00800000#32)))
      (cmpf .olt a (broadcastInDim S1310720 ![] bcast_S_S1310720 (constant S_ .f32 0x7F000000#32))))

theorem fn_eq : fn (F := Ideal) x = Host.reduce IntOp.andi (good (rms (rotated (products x))) (scale (rms (rotated (products x)))))
    (constantI S_ 1 1#1) reducesTo_S1310720_S_d0 h_S_ := rfl

theorem reduces3 : S1310720x32x32.Reduces [1] S1310720x32 := by decide
theorem reduces2 : S1310720x32.Reduces [1] S1310720 := by decide

theorem lift3 (h : S1310720x32x32.Reduces [1] S1310720x32) (B : Fin 1310720) (i k : Fin 32) : h.lift (ix2 B i) k = ix3 B k i := by
  funext a
  match a with
  | ⟨0, _⟩ => rfl
  | ⟨1, _⟩ => rfl
  | ⟨2, _⟩ => rfl

theorem lift2 (h : S1310720x32.Reduces [1] S1310720) (B : Fin 1310720) (k : Fin 32) : h.lift (ix1 B) k = ix2 B k := by
  funext a
  match a with
  | ⟨0, _⟩ => rfl
  | ⟨1, _⟩ => rfl

theorem sumAxis {s t : Shape} {a : Fin s.rank} (h' : s.ReducesTo [a] t) (h : s.Reduces [a] t) (v : FVec Ideal s .f32) (j : t.Idx) :
    Host.reduceAdd v (constant S_ .f32 0x00000000#32) h' h_S_ j = (∑ k : Fin (s.size a), (v (h.lift j k) : EReal) : EReal) := by
  refine (Ideal.hostReduceAdd_single h' h v (Ideal.ofBits .f32 0x00000000#32) j).trans ?_
  rw [Ideal.ofBits_zero_f32, zero_add]

/-- The activations with their two leading axes joined, at an index. -/
theorem joined (R : Fin 16384) (b : Fin 80) (j : Fin 32) (h : S16x1024x2560.ShapeCasts Cert.QuantReferenceIdeal.S16384x2560) :
    shapeCast S1310720x32 x shapeCasts_S16x1024x2560_S1310720x32 (ix2 (nth R b) j) = shapeCast Cert.QuantReferenceIdeal.S16384x2560 x h (ix2 R (col b j)) := by
  have hR := R.isLt
  have hb := b.isLt
  have hj := j.isLt
  refine (shapeCast_apply x _ _ (ix3 ⟨R.val / 1024, by omega⟩ ⟨R.val % 1024, by omega⟩ (col b j)) ?_).trans
    (shapeCast_apply x _ _ (ix3 ⟨R.val / 1024, by omega⟩ ⟨R.val % 1024, by omega⟩ (col b j)) ?_).symm
  · rw [Shape.rowMajor_val_two, Shape.rowMajor_val_three]
    show (R.val / 1024 * 1024 + R.val % 1024) * 2560 + (32 * b.val + j.val) = (80 * R.val + b.val) * 32 + j.val
    omega
  · rw [Shape.rowMajor_val_two, Shape.rowMajor_val_three]
    show (R.val / 1024 * 1024 + R.val % 1024) * 2560 + (32 * b.val + j.val) = R.val * 2560 + (32 * b.val + j.val)
    omega

section

variable (h : S16x1024x2560.ShapeCasts Cert.QuantReferenceIdeal.S16384x2560) (R : Fin 16384) (b : Fin 80)

/-- A row of the joined activations. -/
def rowJ : Fin 2560 → EReal := fun C => shapeCast Cert.QuantReferenceIdeal.S16384x2560 x h (ix2 R C)

theorem rotated_apply (u : Fin 32) : rotated (products x) (ix2 (nth R b) u) = rotv (rowJ x h R) (col b u) := by
  unfold rotated rotv
  refine congrArg (fun v : EReal => v * Ideal.ofBits .f32 0x3E3504F3#32) ((sumAxis _ reduces3 _ _).trans ?_)
  refine Finset.sum_congr (M := EReal) rfl fun j _ => ?_
  refine (congrArg (products x) (lift3 reduces3 _ _ _)).trans ?_
  refine (spread_apply _ _ _ _ _).trans (congrArg₂ (fun v w : EReal => v * w) ((joined x R b j h).trans ?_) ?_)
  · refine congrArg (rowJ x h R) (Fin.ext ?_)
    show 32 * b.val + j.val = 32 * ((32 * b.val + u.val) / 32) + j.val
    omega
  · have e : (⟨(col b u).val % 32, by omega⟩ : Fin 32) = u := Fin.ext (by show (32 * b.val + u.val) % 32 = u.val; omega)
    rw [e]
    exact congrArg (fun w : BitVec 32 => ((w.toInt : ℝ) : EReal)) (signs_apply j u)

theorem rms_apply : rms (rotated (products x)) (ix1 (nth R b)) = rmsR (sumB (rowJ x h R) b) := by
  unfold rms rmsR sumB
  refine congrArg (fun v => Ideal.sqrt (Ideal.div v (Ideal.ofBits .f32 0x42000000#32))) ((sumAxis _ reduces2 _ _).trans ?_)
  refine Finset.sum_congr (M := EReal) rfl fun u _ => ?_
  refine (congrArg (mulf (rotated (products x)) (rotated (products x))) (lift2 reduces2 _ _)).trans ?_
  exact congrArg (fun v : EReal => v * v) (rotated_apply x h R b u)

theorem top_word : Ideal.ofBits .f32 0x7F000000#32 = ((2 ^ (127 : ℤ) : ℝ) : EReal) := word_eq 254 (by decide) (by decide)

/-- The precondition at a block. -/
theorem good_of_pre (hp : fn (F := Ideal) x = fun _ => 1#1) : Good (sumB (rowJ x h R) b) := by
  haveI : Subsingleton S_.Idx := ⟨fun a b => funext fun k => k.elim0⟩
  rw [fn_eq] at hp
  have e := Host.reduce_andi_all _ _ _ _ _ (congrFun hp (fun k => k.elim0)) (ix1 (nth R b))
  unfold Good
  rw [← rms_apply, ← top_word]
  generalize rms (rotated (products x)) = r at e ⊢
  rcases IntOp.ori_eq_one.1 e with e | e
  · left
    have e' : Ideal.cmp .oeq (r (ix1 (nth R b))) (Ideal.ofBits .f32 0x00000000#32) = 1#1 := e
    rw [Ideal.ofBits_zero_f32] at e'
    by_contra hne
    exact absurd e' (by show ¬ BitVec.ofBool (decide (r (ix1 (nth R b)) = 0)) = 1#1; simp [hne])
  · right
    obtain ⟨e1, e2⟩ := IntOp.andi_eq_one.1 e
    have e1' : Ideal.cmp .oge (scaleOf (r (ix1 (nth R b)))) (Ideal.ofBits .f32 0x00800000#32) = 1#1 := e1
    have e2' : Ideal.cmp .olt (scaleOf (r (ix1 (nth R b)))) (Ideal.ofBits .f32 0x7F000000#32) = 1#1 := e2
    refine ⟨(cmp_oge _ _).1 e1', ?_⟩
    by_contra hne
    exact absurd e2' (by
      show ¬ BitVec.ofBool (decide (scaleOf (r (ix1 (nth R b))) < Ideal.ofBits .f32 0x7F000000#32)) = 1#1
      simp [hne])

end

end Cert.Pre_blocks_normal.Blocks

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Pre_scales_normal
public import proofs.«01_k».proof.Proof.Gen.Quant
public import proofs.«01_k».proof.Proof.Gen.Quant.Skeleton
public import proofs.«01_k».proof.Proof.Gen.Quant.Launch
public import proofs.«01_k».proof.Proof.Gen.Quant.Points
public import proofs.«01_k».proof.Proof.Gen.Quant.Frame.Runs
public import proofs.«01_k».proof.Proof.Gen.QuantIdeal
public import proofs.«01_k».proof.Proof.Gen.QuantReferenceIdeal
public import proofs.«01_k».proof.Proof.Gen.QuantReferenceIdeal.Skeleton
public import proofs.«01_k».proof.Proof.Gen.QuantReferenceIdeal.Launch
public import proofs.«01_k».proof.Proof.Gen.QuantReferenceIdeal.Points
public import proofs.«01_k».proof.Proof.Gen.QuantReferenceIdeal.Frame
public import proofs.«01_k».proof.Proof.Gen.Pre_blocks_normal
public import proofs.«01_k».proof.Proof.Same
public import proofs.«01_k».proof.Proof.RefValue
public import proofs.«01_k».proof.Proof.Scale
public import Idealize.ShloMosaic.Lib.ReduceAll
public import Idealize.ShloMosaic.Adequacy
public import Idealize.ShloMosaic.Init
public import proofs.«01_k».proof.Proof.QuantSame
public import proofs.«01_k».proof.Proof.QuantRefValue
public import proofs.«01_k».proof.Proof.QuantPre

@[expose] public section

noncomputable section

namespace Cert.Proof

open Idealize.ShloMosaic Idealize.SL.Sem Cert.Kernel

/-- The precondition at one scale byte: it is from 1 to 254. -/
theorem byte_of_pre (x0 : FVec Ideal Cert.Pre_scales_normal.S16384x2560 .bf16) (x1 : FVec Ideal Cert.Pre_scales_normal.S10240x2560 .fp8e4m3)
    (x2 : IVec Cert.Pre_scales_normal.S10240x80 8) (h : Cert.Pre_scales_normal.fn (F := Ideal) x0 x1 x2 = fun _ => 1#1)
    (i : Cert.Pre_scales_normal.S10240x80.Idx) : 1 ≤ (x2 i).toNat ∧ (x2 i).toNat ≤ 254 := by
  haveI : Subsingleton Cert.Pre_scales_normal.S_.Idx := ⟨fun a b => funext fun k => k.elim0⟩
  have e := Host.reduce_andi_all _ _ _ _ _ (congrFun h (fun k => k.elim0)) i
  obtain ⟨e1, e2⟩ := IntOp.andi_eq_one.1 e
  exact ⟨IntOp.cmpi_uge.1 e1, IntOp.cmpi_ule.1 e2⟩

/-- The two values agree where every scale byte is from 1 to 254. -/
theorem value_eq (x : Vec Ideal Cert.Kernel.S16384x2560 .bf16) (codes : Vec Ideal Cert.Kernel.S10240x2560 .fp8e4m3)
    (bytes : Vec Ideal Cert.Kernel.S10240x80 .i8)
    (h : ∀ i, 1 ≤ (bytes i : BitVec 8).toNat ∧ (bytes i : BitVec 8).toNat ≤ 254) :
    Cert.ReferenceIdeal.RefValue.result x codes bytes = Cert.Kernel.Hand.product x (Cert.Kernel.Hand.weights codes bytes) := by
  funext i
  refine Finset.sum_congr (M := EReal) rfl fun k _ => ?_
  refine congrArg (fun r : EReal => _ * (_ * r)) ?_
  exact (Cert.Scale.scale_eq _ (h _).1 (h _).2).symm

/-- The quantiser's four results agree where every block holds a scale of the format. -/
theorem quant_eq (x : Vec Ideal Cert.Quant.S16x1024x2560 .bf16) (h : Cert.Pre_blocks_normal.fn (F := Ideal) x = fun _ => 1#1) :
    Cert.QuantReferenceIdeal.RefRow.arrX (Cert.QuantReferenceIdeal.RefRow.flat x) = Cert.Quant.Hand.arrX (Cert.Quant.Hand.flat x)
    ∧ Cert.QuantReferenceIdeal.RefRow.arrC (Cert.QuantReferenceIdeal.RefRow.flat x) = Cert.Quant.Hand.arrC (Cert.Quant.Hand.flat x)
    ∧ Cert.QuantReferenceIdeal.RefRow.arrS (Cert.QuantReferenceIdeal.RefRow.flat x) = Cert.Quant.Hand.arrS (Cert.Quant.Hand.flat x)
    ∧ Cert.QuantReferenceIdeal.RefRow.arrK (Cert.QuantReferenceIdeal.RefRow.flat x) = Cert.Quant.Hand.arrK (Cert.Quant.Hand.flat x) := by
  have good : ∀ R b, Cert.Quant.Scalar.Good (Cert.Quant.Row.sumB (Cert.Quant.Hand.row (Cert.Quant.Hand.flat x) R) b) :=
    fun R b => Cert.Pre_blocks_normal.Blocks.good_of_pre x Cert.Quant.Gen.shapeCasts_S16x1024x2560_S16384x2560 R b h
  exact ⟨funext fun y => (Cert.Quant.Row.xq_eq (good (y 0)) (y 1)).symm, funext fun y => (Cert.Quant.Row.code_eq (good (y 0)) (y 1)).symm,
    funext fun y => (Cert.Quant.Row.scale_eq (good (y 0)) (y 1)).symm, funext fun y => (Cert.Quant.Row.mask_eq (good (y 0)) (y 1)).symm⟩

theorem claim : Cert.Claim := ⟨Cert.Kernel.Gen.facts, Cert.KernelIdeal.Gen.facts, Cert.ReferenceIdeal.Gen.facts, Cert.Quant.Gen.facts, Cert.QuantIdeal.Gen.facts,
  Cert.QuantReferenceIdeal.Gen.facts, Cert.Pre_scales_normal.Gen.facts, Cert.Pre_blocks_normal.Gen.facts,
  fun m ρ _ => Cert.Kernel.Hand.frame m ρ,
  fun m ρ _ => (θ_run _ _ _).mono (fun _ h => ⟨fun c => ⟨(h.1 c).1, (h.1 c).2.1, (h.1 c).2.2.1⟩, h.2⟩) (run_same.mpr run_kernel m ρ),
  fun m ρ _ => (θ_run _ _ _).mono (fun _ h => ⟨fun c => ⟨(h.1 c).1, (h.1 c).2.1, (h.1 c).2.2.1⟩, h.2⟩) (run_same.mpr run_kernel m ρ),
  fun m ρ _ => Cert.ReferenceIdeal.Gen.frame m ρ,
  fun m ρ _ => Cert.ReferenceIdeal.Gen.frame m ρ,
  fun m ρ _ => Cert.Quant.Hand.frame m ρ,
  fun m ρ _ => (θ_run _ _ _).mono (fun _ h => ⟨fun c => (h.1 c).1, h.2⟩) (run_quant m ρ),
  fun m ρ _ => (θ_run _ _ _).mono (fun _ h => ⟨fun c => (h.1 c).1, h.2⟩) (run_quant m ρ),
  fun m ρ _ => Cert.QuantReferenceIdeal.Gen.frame m ρ,
  fun m ρ _ => Cert.QuantReferenceIdeal.Gen.frame m ρ,
  trivial,
  fun m ρ m' ρ' hpre hargs => by
    refine ⟨_, (θ_run _ _ _).mono (fun r h c => ⟨(h.1 c).2.2.2, (h.1 c).1, (h.1 c).2.1, (h.1 c).2.2.1⟩) (run_same.mpr run_kernel m ρ),
      (θ_run _ _ _).mono (fun r h c => ⟨(h c).1.trans ?_, (h c).2⟩) (Cert.ReferenceIdeal.RefValue.run m' ρ')⟩
    have e := hargs c
    rw [e.1, e.2.1, e.2.2]
    exact value_eq _ _ _ fun i => byte_of_pre _ _ _ (hpre c) i,
  trivial,
  fun m ρ m' ρ' hpre hargs => by
    refine ⟨_, _, _, _, (θ_run _ _ _).mono (fun r h c => ⟨(h.1 c).2.1, (h.1 c).2.2.1, (h.1 c).2.2.2.1, (h.1 c).2.2.2.2, (h.1 c).1⟩) (run_quant m ρ),
      (θ_run _ _ _).mono (fun r h c => ?_) (Cert.QuantReferenceIdeal.RefRow.run m' ρ')⟩
    obtain ⟨h0, h1, h2, h3, h4⟩ := h c
    have q := quant_eq _ (hpre c)
    have e := hargs c
    rw [e] at h1 h2 h3 h4
    exact ⟨h1.trans q.1, h2.trans q.2.1, h3.trans q.2.2.1, h4.trans q.2.2.2, h0⟩⟩

end Cert.Proof

end
